-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "delta" .f32 0x3C23D70A#32 ((1 / 100 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8192x2 : Shape := ⟨3, ![2, 8192, 2]⟩
abbrev S_ : Shape := ⟨0, ![]⟩
abbrev S100 : Shape := ⟨1, ![100]⟩
abbrev S100x256 : Shape := ⟨2, ![100, 256]⟩
abbrev S2x2x8192 : Shape := ⟨3, ![2, 2, 8192]⟩
abbrev S2x100x100 : Shape := ⟨3, ![2, 100, 100]⟩
abbrev S2x2x2048 : Shape := ⟨3, ![2, 2, 2048]⟩
abbrev S1x2x2048 : Shape := ⟨3, ![1, 2, 2048]⟩
abbrev S2x2048 : Shape := ⟨2, ![2, 2048]⟩
abbrev S1x2048 : Shape := ⟨2, ![1, 2048]⟩
abbrev S1x256 : Shape := ⟨2, ![1, 256]⟩
abbrev S100x100 : Shape := ⟨2, ![100, 100]⟩
abbrev S1x100x100 : Shape := ⟨3, ![1, 100, 100]⟩
abbrev S2 : Shape := ⟨1, ![2]⟩
abbrev S2x1x1 : Shape := ⟨3, ![2, 1, 1]⟩

abbrev nBuf : Space → Nat
  | .hbm => 7
  | .vmem => 5
  | .smem => 0
  | _ => 0

abbrev bufTy : (tb : Table) → Fin (tcTables nBuf tb) → BufTy
  | .hbm, ⟨0, _⟩ => ⟨S2x8192x2, .f32⟩
  | .hbm, ⟨1, _⟩ => ⟨S_, .i32⟩
  | .hbm, ⟨2, _⟩ => ⟨S100, .f32⟩
  | .hbm, ⟨3, _⟩ => ⟨S100x256, .f32⟩
  | .hbm, ⟨4, _⟩ => ⟨S2x2x8192, .f32⟩
  | .hbm, ⟨5, _⟩ => ⟨S100x256, .bf16⟩
  | .hbm, ⟨6, _⟩ => ⟨S2x100x100, .f32⟩
  | .local _ .vmem, ⟨0, _⟩ => ⟨S100x256, .f32⟩
  | .local _ .vmem, ⟨1, _⟩ => ⟨S100x256, .bf16⟩
  | .local _ .vmem, ⟨2, _⟩ => ⟨S2x2x2048, .f32⟩
  | .local _ .vmem, ⟨3, _⟩ => ⟨S2x2x2048, .f32⟩
  | .local _ .vmem, ⟨4, _⟩ => ⟨S2x100x100, .f32⟩
  | _, _ => ⟨S2x8192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S100x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S100x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x2x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x100x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "delta" => some ((1 / 100 : ℝ) : EReal)
  | _ => none
-- ==== ReferenceIdeal.lean ====
abbrev S2x8192x2 : Shape := ⟨3, ![2, 8192, 2]⟩
abbrev S_ : Shape := ⟨0, ![]⟩
abbrev S100 : Shape := ⟨1, ![100]⟩
abbrev S2x8x1024x2 : Shape := ⟨4, ![2, 8, 1024, 2]⟩
abbrev S8x2x1024x2 : Shape := ⟨4, ![8, 2, 1024, 2]⟩
abbrev S2x100x100 : Shape := ⟨3, ![2, 100, 100]⟩
abbrev S1x2x1024x2 : Shape := ⟨4, ![1, 2, 1024, 2]⟩
abbrev S2x1024x2 : Shape := ⟨3, ![2, 1024, 2]⟩
abbrev S2x1024x1 : Shape := ⟨3, ![2, 1024, 1]⟩
abbrev S2x1024 : Shape := ⟨2, ![2, 1024]⟩
abbrev S1x1x100 : Shape := ⟨3, ![1, 1, 100]⟩
abbrev S2x1024x100 : Shape := ⟨3, ![2, 1024, 100]⟩
abbrev S2x1024x100x1 : Shape := ⟨4, ![2, 1024, 100, 1]⟩
abbrev S2x1024x1x100 : Shape := ⟨4, ![2, 1024, 1, 100]⟩
abbrev S2x1024x100x100 : Shape := ⟨4, ![2, 1024, 100, 100]⟩
abbrev S2x1024x1x1 : Shape := ⟨4, ![2, 1024, 1, 1]⟩
abbrev S2 : Shape := ⟨1, ![2]⟩
abbrev S2x1x1 : Shape := ⟨3, ![2, 1, 1]⟩

abbrev nBuf : Space → Nat
  | .hbm => 111
  | .vmem => 0
  | .smem => 0
  | _ => 0

abbrev bufTy : (tb : Table) → Fin (tcTables nBuf tb) → BufTy
  | .hbm, ⟨0, _⟩ => ⟨S2x8192x2, .f32⟩
  | .hbm, ⟨1, _⟩ => ⟨S_, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S100, .f32⟩
  | .hbm, ⟨6, _⟩ => ⟨S_, .f32⟩
  | .hbm, ⟨7, _⟩ => ⟨S100, .f32⟩
  | .hbm, ⟨8, _⟩ => ⟨S100, .f32⟩
  | .hbm, ⟨9, _⟩ => ⟨S100, .f32⟩
  | .hbm, ⟨10, _⟩ => ⟨S100, .f32⟩
  | .hbm, ⟨11, _⟩ => ⟨S_, .f32⟩
  | .hbm, ⟨12, _⟩ => ⟨S100, .f32⟩
  | .hbm, ⟨13, _⟩ => ⟨S100, .f32⟩
  | .hbm, ⟨14, _⟩ => ⟨S_, .f32⟩
  | .hbm, ⟨15, _⟩ => ⟨S2x8192x2, .f32⟩
  | .hbm, ⟨16, _⟩ => ⟨S2x8192x2, .f32⟩
  | .hbm, ⟨17, _⟩ => ⟨S_, .f32⟩
  | .hbm, ⟨18, _⟩ => ⟨S_, .f32⟩
  | .hbm, ⟨19, _⟩ => ⟨S2x8192x2, .f32⟩
  | .hbm, ⟨20, _⟩ => ⟨S2x8192x2, .f32⟩
  | .hbm, ⟨21, _⟩ => ⟨S_, .f32⟩
  | .hbm, ⟨22, _⟩ => ⟨S2x8192x2, .f32⟩
  | .hbm, ⟨23, _⟩ => ⟨S2x8192x2, .i1⟩
  | .hbm, ⟨24, _⟩ => ⟨S_, .f32⟩
  | .hbm, ⟨25, _⟩ => ⟨S2x8192x2, .f32⟩
  | .hbm, ⟨26, _⟩ => ⟨S2x8192x2, .i1⟩
  | .hbm, ⟨27, _⟩ => ⟨S_, .f32⟩
  | .hbm, ⟨28, _⟩ => ⟨S_, .i1⟩
  | .hbm, ⟨29, _⟩ => ⟨S2x8192x2, .i1⟩
  | .hbm, ⟨30, _⟩ => ⟨S2x8192x2, .i1⟩
  | .hbm, ⟨31, _⟩ => ⟨S2x8192x2, .i1⟩
  | .hbm, ⟨32, _⟩ => ⟨S2x8192x2, .f32⟩
  | .hbm, ⟨33, _⟩ => ⟨S2x8192x2, .f32⟩
  | .hbm, ⟨34, _⟩ => ⟨S2x8192x2, .f32⟩
  | .hbm, ⟨35, _⟩ => ⟨S_, .f32⟩
  | .hbm, ⟨36, _⟩ => ⟨S2x8192x2, .f32⟩
  | .hbm, ⟨37, _⟩ => ⟨S2x8192x2, .f32⟩
  | .hbm, ⟨38, _⟩ => ⟨S2x8x1024x2, .f32⟩
  | .hbm, ⟨39, _⟩ => ⟨S8x2x1024x2, .f32⟩
  | .hbm, ⟨40, _⟩ => ⟨S_, .f32⟩
  | .hbm, ⟨41, _⟩ => ⟨S2x100x100, .f32⟩
  | .hbm, ⟨42, _⟩ => ⟨S_, .i32⟩
  | .hbm, ⟨43, _⟩ => ⟨S8x2x1024x2, .f32⟩
  | .hbm, ⟨44, _⟩ => ⟨S100, .f32⟩
  | .hbm, ⟨45, _⟩ => ⟨S_, .f32⟩
  | .hbm, ⟨46, _⟩ => ⟨S_, .i32⟩
  | .hbm, ⟨47, _⟩ => ⟨S2x100x100, .f32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x2x1024x2, .f32⟩
  | .hbm, ⟨54, _⟩ => ⟨S2x1024x2, .f32⟩
  | .hbm, ⟨55, _⟩ => ⟨S2x1024x1, .f32⟩
  | .hbm, ⟨56, _⟩ => ⟨S2x1024, .f32⟩
  | .hbm, ⟨57, _⟩ => ⟨S2x1024x1, .f32⟩
  | .hbm, ⟨58, _⟩ => ⟨S2x1024, .f32⟩
  | .hbm, ⟨59, _⟩ => ⟨S2x1024x1, .f32⟩
  | .hbm, ⟨60, _⟩ => ⟨S1x1x100, .f32⟩
  | .hbm, ⟨61, _⟩ => ⟨S2x1024x100, .f32⟩
  | .hbm, ⟨62, _⟩ => ⟨S2x1024x100, .f32⟩
  | .hbm, ⟨63, _⟩ => ⟨S2x1024x100, .f32⟩
  | .hbm, ⟨64, _⟩ => ⟨S2x1024x100, .f32⟩
  | .hbm, ⟨65, _⟩ => ⟨S2x1024x1, .f32⟩
  | .hbm, ⟨66, _⟩ => ⟨S1x1x100, .f32⟩
  | .hbm, ⟨67, _⟩ => ⟨S2x1024x100, .f32⟩
  | .hbm, ⟨68, _⟩ => ⟨S2x1024x100, .f32⟩
  | .hbm, ⟨69, _⟩ => ⟨S2x1024x100, .f32⟩
  | .hbm, ⟨70, _⟩ => ⟨S2x1024x100, .f32⟩
  | .hbm, ⟨71, _⟩ => ⟨S2x1024x100x1, .f32⟩
  | .hbm, ⟨72, _⟩ => ⟨S2x1024x1x100, .f32⟩
  | .hbm, ⟨73, _⟩ => ⟨S2x1024x100x100, .f32⟩
  | .hbm, ⟨74, _⟩ => ⟨S2x1024x100x100, .f32⟩
  | .hbm, ⟨75, _⟩ => ⟨S2x1024x100x100, .f32⟩
  | .hbm, ⟨76, _⟩ => ⟨S_, .f32⟩
  | .hbm, ⟨77, _⟩ => ⟨S2x1024x100x100, .f32⟩
  | .hbm, ⟨78, _⟩ => ⟨S2x1024x100x100, .f32⟩
  | .hbm, ⟨79, _⟩ => ⟨S2x1024x100x100, .f32⟩
  | .hbm, ⟨80, _⟩ => ⟨S2x1024x100x100, .f32⟩
  | .hbm, ⟨81, _⟩ => ⟨S_, .f32⟩
  | .hbm, ⟨82, _⟩ => ⟨S2x1024x100x100, .f32⟩
  | .hbm, ⟨83, _⟩ => ⟨S2x1024x100x100, .f32⟩
  | .hbm, ⟨84, _⟩ => ⟨S2x1024, .f32⟩
  | .hbm, ⟨85, _⟩ => ⟨S_, .f32⟩
  | .hbm, ⟨86, _⟩ => ⟨S2x1024, .f32⟩
  | .hbm, ⟨87, _⟩ => ⟨S2x1024, .i1⟩
  | .hbm, ⟨88, _⟩ => ⟨S2x1024, .f32⟩
  | .hbm, ⟨89, _⟩ => ⟨S_, .f32⟩
  | .hbm, ⟨90, _⟩ => ⟨S2x1024, .f32⟩
  | .hbm, ⟨91, _⟩ => ⟨S2x1024, .i1⟩
  | .hbm, ⟨92, _⟩ => ⟨S2x1024, .i1⟩
  | .hbm, ⟨93, _⟩ => ⟨S2x1024x1x1, .i1⟩
  | .hbm, ⟨94, _⟩ => ⟨S_, .f32⟩
  | .hbm, ⟨95, _⟩ => ⟨S2x1024x100x100, .f32⟩
  | .hbm, ⟨96, _⟩ => ⟨S2x1024x100x100, .i1⟩
  | .hbm, ⟨97, _⟩ => ⟨S2x1024x100x100, .f32⟩
  | .hbm, ⟨98, _⟩ => ⟨S_, .f32⟩
  | .hbm, ⟨99, _⟩ => ⟨S2x100x100, .f32⟩
  | .hbm, ⟨100, _⟩ => ⟨S2x100x100, .f32⟩
  | .hbm, ⟨101, _⟩ => ⟨S_, .i32⟩
  | .hbm, ⟨102, _⟩ => ⟨S_, .i32⟩
  | .hbm, ⟨103, _⟩ => ⟨S_, .f32⟩
  | .hbm, ⟨104, _⟩ => ⟨S2, .f32⟩
  | .hbm, ⟨105, _⟩ => ⟨S2x1x1, .f32⟩
  | .hbm, ⟨106, _⟩ => ⟨S_, .f32⟩
  | .hbm, ⟨107, _⟩ => ⟨S2x1x1, .f32⟩
  | .hbm, ⟨108, _⟩ => ⟨S2x1x1, .f32⟩
  | .hbm, ⟨109, _⟩ => ⟨S2x100x100, .f32⟩
  | .hbm, ⟨110, _⟩ => ⟨S2x100x100, .f32⟩
  | _, _ => ⟨S2x8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_cst : Ref sig .tc := ⟨.hbm, 21, rfl⟩
abbrev main_call0_v3 : Ref sig .tc := ⟨.hbm, 22, rfl⟩
abbrev main_call0_v4 : Ref sig .tc := ⟨.hbm, 23, rfl⟩
abbrev main_call0_cst_0 : Ref sig .tc := ⟨.hbm, 24, rfl⟩
abbrev main_call0_v5 : Ref sig .tc := ⟨.hbm, 25, rfl⟩
abbrev main_call0_v6 : Ref sig .tc := ⟨.hbm, 26, rfl⟩
abbrev main_call0_cst_1 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_v10 : Ref sig .tc := ⟨.hbm, 34, rfl⟩
abbrev main_cst_5 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_6 : Ref sig .tc := ⟨.hbm, 40, rfl⟩
abbrev main_v15 : Ref sig .tc := ⟨.hbm, 41, rfl⟩
abbrev main_c : Ref sig .tc := ⟨.hbm, 42, rfl⟩
abbrev main_v16_0 : Ref sig .tc := ⟨.hbm, 43, rfl⟩
abbrev main_v16_1 : Ref sig .tc := ⟨.hbm, 44, rfl⟩
abbrev main_v16_2 : Ref sig .tc := ⟨.hbm, 45, rfl⟩
abbrev main_v16_3 : Ref sig .tc := ⟨.hbm, 46, rfl⟩
abbrev main_v16_4 : Ref sig .tc := ⟨.hbm, 47, rfl⟩
abbrev main_while0c_c_13 : Ref sig .tc := ⟨.hbm, 48, rfl⟩
abbrev main_while0c_v23 : Ref sig .tc := ⟨.hbm, 49, rfl⟩
abbrev main_while0b_call1_c : Ref sig .tc := ⟨.hbm, 50, rfl⟩
abbrev main_while0b_call1_c_0 : Ref sig .tc := ⟨.hbm, 51, rfl⟩
abbrev main_while0b_call1_c_1 : Ref sig .tc := ⟨.hbm, 52, rfl⟩
abbrev main_while0b_call1_v0 : Ref sig .tc := ⟨.hbm, 53, rfl⟩
abbrev main_while0b_v23 : Ref sig .tc := ⟨.hbm, 54, rfl⟩
abbrev main_while0b_v24 : Ref sig .tc := ⟨.hbm, 55, rfl⟩
abbrev main_while0b_v25 : Ref sig .tc := ⟨.hbm, 56, rfl⟩
abbrev main_while0b_v26 : Ref sig .tc := ⟨.hbm, 57, rfl⟩
abbrev main_while0b_v27 : Ref sig .tc := ⟨.hbm, 58, rfl⟩
abbrev main_while0b_v28 : Ref sig .tc := ⟨.hbm, 59, rfl⟩
abbrev main_while0b_v29 : Ref sig .tc := ⟨.hbm, 60, rfl⟩
abbrev main_while0b_v30 : Ref sig .tc := ⟨.hbm, 61, rfl⟩
abbrev main_while0b_v31 : Ref sig .tc := ⟨.hbm, 62, rfl⟩
abbrev main_while0b_v32 : Ref sig .tc := ⟨.hbm, 63, rfl⟩
abbrev main_while0b_v33 : Ref sig .tc := ⟨.hbm, 64, rfl⟩
abbrev main_while0b_v34 : Ref sig .tc := ⟨.hbm, 65, rfl⟩
abbrev main_while0b_v35 : Ref sig .tc := ⟨.hbm, 66, rfl⟩
abbrev main_while0b_v36 : Ref sig .tc := ⟨.hbm, 67, rfl⟩
abbrev main_while0b_v37 : Ref sig .tc := ⟨.hbm, 68, rfl⟩
abbrev main_while0b_v38 : Ref sig .tc := ⟨.hbm, 69, rfl⟩
abbrev main_while0b_v39 : Ref sig .tc := ⟨.hbm, 70, rfl⟩
abbrev main_while0b_v40 : Ref sig .tc := ⟨.hbm, 71, rfl⟩
abbrev main_while0b_v41 : Ref sig .tc := ⟨.hbm, 72, rfl⟩
abbrev main_while0b_v42 : Ref sig .tc := ⟨.hbm, 73, rfl⟩
abbrev main_while0b_v43 : Ref sig .tc := ⟨.hbm, 74, rfl⟩
abbrev main_while0b_v44 : Ref sig .tc := ⟨.hbm, 75, rfl⟩
abbrev main_while0b_cst_13 : Ref sig .tc := ⟨.hbm, 76, rfl⟩
abbrev main_while0b_v45 : Ref sig .tc := ⟨.hbm, 77, rfl⟩
abbrev main_while0b_v46 : Ref sig .tc := ⟨.hbm, 78, rfl⟩
abbrev main_while0b_v47 : Ref sig .tc := ⟨.hbm, 79, rfl⟩
abbrev main_while0b_v48 : Ref sig .tc := ⟨.hbm, 80, rfl⟩
abbrev main_while0b_call2_cst : Ref sig .tc := ⟨.hbm, 81, rfl⟩
abbrev main_while0b_call2_v0 : Ref sig .tc := ⟨.hbm, 82, rfl⟩
abbrev main_while0b_v49 : Ref sig .tc := ⟨.hbm, 83, rfl⟩
abbrev main_while0b_v50 : Ref sig .tc := ⟨.hbm, 84, rfl⟩
abbrev main_while0b_cst_14 : Ref sig .tc := ⟨.hbm, 85, rfl⟩
abbrev main_while0b_v51 : Ref sig .tc := ⟨.hbm, 86, rfl⟩
abbrev main_while0b_v52 : Ref sig .tc := ⟨.hbm, 87, rfl⟩
abbrev main_while0b_v53 : Ref sig .tc := ⟨.hbm, 88, rfl⟩
abbrev main_while0b_cst_15 : Ref sig .tc := ⟨.hbm, 89, rfl⟩
abbrev main_while0b_v54 : Ref sig .tc := ⟨.hbm, 90, rfl⟩
abbrev main_while0b_v55 : Ref sig .tc := ⟨.hbm, 91, rfl⟩
abbrev main_while0b_v56 : Ref sig .tc := ⟨.hbm, 92, rfl⟩
abbrev main_while0b_v57 : Ref sig .tc := ⟨.hbm, 93, rfl⟩
abbrev main_while0b_cst_16 : Ref sig .tc := ⟨.hbm, 94, rfl⟩
abbrev main_while0b_v58 : Ref sig .tc := ⟨.hbm, 95, rfl⟩
abbrev main_while0b_call3_v0 : Ref sig .tc := ⟨.hbm, 96, rfl⟩
abbrev main_while0b_v59 : Ref sig .tc := ⟨.hbm, 97, rfl⟩
abbrev main_while0b_cst_17 : Ref sig .tc := ⟨.hbm, 98, rfl⟩
abbrev main_while0b_v60 : Ref sig .tc := ⟨.hbm, 99, rfl⟩
abbrev main_while0b_v61 : Ref sig .tc := ⟨.hbm, 100, rfl⟩
abbrev main_while0b_c_18 : Ref sig .tc := ⟨.hbm, 101, rfl⟩
abbrev main_while0b_v62 : Ref sig .tc := ⟨.hbm, 102, rfl⟩
abbrev main_cst_7 : Ref sig .tc := ⟨.hbm, 103, rfl⟩
abbrev main_v17 : Ref sig .tc := ⟨.hbm, 104, rfl⟩
abbrev main_v18 : Ref sig .tc := ⟨.hbm, 105, rfl⟩
abbrev main_cst_8 : Ref sig .tc := ⟨.hbm, 106, rfl⟩
abbrev main_v19 : Ref sig .tc := ⟨.hbm, 107, rfl⟩
abbrev main_v20 : Ref sig .tc := ⟨.hbm, 108, rfl⟩
abbrev main_v21 : Ref sig .tc := ⟨.hbm, 109, rfl⟩
abbrev main_v22 : Ref sig .tc := ⟨.hbm, 110, rfl⟩

abbrev nD : Nat := 1
abbrev τ : Topo := Topo.v7x

variable {F : FTy → Type} [FloatOps F]

abbrev main_while0_count : Scf.Loop 32 := ⟨0#32, 8#32, 1#32⟩
-- ==== Proof.Tent.lean ====
/- One point and one bin, over the reals: the share of a point that falls to a bin, what the kernel's four products add up
   to, and what the reference's clipped difference is. Nothing here mentions a program. -/
module

public import Idealize.ShloMosaic.PureOps.Ideal

@[expose] public section

noncomputable section

namespace Cert.Hist

/-- The share of the bin with indices `k`, `j`, in units of the bin width, of the point whose wrapped coordinates are `s / 100`
    and `t / 100` of the unit interval. -/
def share (s t : ℝ) (k j : ℕ) : ℝ := max 0 (1 - |s - 1 / 2 - k| / 2 - |t - 1 / 2 - j| / 2)

/-- One if the condition holds, else zero. -/
def flag (p : Prop) [Decidable p] : ℝ := if p then 1 else 0

/-- The kernel's four products at one point: the columns within two of the point's own get a clipped distance, the others
    nothing. `h` is half the distance along the first axis, `b` the place along the second. -/
def four (h b : ℝ) (j : ℕ) : ℝ :=
  max ((1 - 1 / 2 * (b - ⌊b⌋)) - h - 1 / 2) 0 * flag ((j : ℝ) / 2 - 1 / 2 * ⌊b⌋ = -(1 / 2))
  + max ((1 - 1 / 2 * (b - ⌊b⌋)) - h) 0 * flag ((j : ℝ) / 2 - 1 / 2 * ⌊b⌋ = 0)
  + max ((1 / 2 + 1 / 2 * (b - ⌊b⌋)) - h) 0 * flag ((j : ℝ) / 2 - 1 / 2 * ⌊b⌋ = 1 / 2)
  + max ((1 / 2 + 1 / 2 * (b - ⌊b⌋)) - h - 1 / 2) 0 * flag ((j : ℝ) / 2 - 1 / 2 * ⌊b⌋ = 1)

/-- The flag's condition as an equation of integers. -/
theorem flag_shift (j : ℕ) (n d : ℤ) (e : ℝ) (he : e = (d : ℝ) / 2) :
    flag ((j : ℝ) / 2 - 1 / 2 * (n : ℝ) = e) = flag ((j : ℤ) = n + d) := by
  unfold flag
  have : ((j : ℝ) / 2 - 1 / 2 * (n : ℝ) = e) ↔ ((j : ℤ) = n + d) := by
    rw [he]
    constructor
    · intro h
      have h2 : ((j : ℤ) : ℝ) = ((n + d : ℤ) : ℝ) := by push_cast; linarith
      exact_mod_cast h2
    · intro h
      have h2 : ((j : ℤ) : ℝ) = ((n + d : ℤ) : ℝ) := by rw [h]
      push_cast at h2
      linarith
  simp only [this]

/-- The four products add up to the clipped distance. -/
theorem four_eq (h b : ℝ) (hh : 0 ≤ h) (j : ℕ) : four h b j = max 0 (1 - h - |b - j| / 2) := by
  have f0 : (⌊b⌋ : ℝ) ≤ b := Int.floor_le b
  have f1 : b < ⌊b⌋ + 1 := Int.lt_floor_add_one b
  unfold four
  rw [flag_shift j ⌊b⌋ (-1) _ (by norm_num), flag_shift j ⌊b⌋ 0 _ (by norm_num), flag_shift j ⌊b⌋ 1 _ (by norm_num),
    flag_shift j ⌊b⌋ 2 _ (by norm_num)]
  generalize ⌊b⌋ = n at *
  have hj : ∀ d : ℤ, (j : ℤ) = n + d → (j : ℝ) = n + d := fun d e => by exact_mod_cast e
  unfold flag
  by_cases c0 : (j : ℤ) = n + -1
  · have := hj _ c0
    rw [if_pos c0, if_neg (by omega), if_neg (by omega), if_neg (by omega), this]
    push_cast
    rw [abs_of_nonneg (by linarith)]
    simp only [mul_one, mul_zero, add_zero]
    rw [max_comm]
    congr 1; ring
  by_cases c1 : (j : ℤ) = n + 0
  · have := hj _ c1
    rw [if_neg c0, if_pos c1, if_neg (by omega), if_neg (by omega), this]
    push_cast
    rw [abs_of_nonneg (by linarith)]
    simp only [mul_one, mul_zero, add_zero, zero_add]
    rw [max_comm]
    congr 1; ring
  by_cases c2 : (j : ℤ) = n + 1
  · have := hj _ c2
    rw [if_neg c0, if_neg c1, if_pos c2, if_neg (by omega), this]
    push_cast
    rw [abs_of_nonpos (by linarith)]
    simp only [mul_one, mul_zero, add_zero, zero_add]
    rw [max_comm]
    congr 1; ring
  by_cases c3 : (j : ℤ) = n + 2
  · have := hj _ c3
    rw [if_neg c0, if_neg c1, if_neg c2, if_pos c3, this]
    push_cast
    rw [abs_of_nonpos (by linarith)]
    simp only [mul_one, mul_zero, zero_add]
    rw [max_comm]
    congr 1; ring
  rw [if_neg c0, if_neg c1, if_neg c2, if_neg c3]
  simp only [mul_zero, add_zero]
  refine (max_eq_left ?_).symm
  rcases (by omega : (j : ℤ) ≤ n - 2 ∨ n + 3 ≤ (j : ℤ)) with c | c
  · have c' : ((j : ℤ) : ℝ) ≤ ((n - 2 : ℤ) : ℝ) := by exact_mod_cast c
    push_cast at c'
    have := le_abs_self (b - j)
    linarith
  · have c' : ((n + 3 : ℤ) : ℝ) ≤ ((j : ℤ) : ℝ) := by exact_mod_cast c
    push_cast at c'
    have := neg_abs_le (b - j)
    linarith

/-- At a finite point the four products are the point's share. -/
theorem four_share (s t : ℝ) (k j : ℕ) : four |1 / 2 * s - 1 / 4 - (k : ℝ) / 2| (t - 1 / 2) j = share s t k j := by
  rw [four_eq _ _ (abs_nonneg _)]
  unfold share
  rw [show 1 / 2 * s - 1 / 4 - (k : ℝ) / 2 = (s - 1 / 2 - k) / 2 by ring, abs_div, abs_of_pos (by norm_num : (0 : ℝ) < 2)]

/-- Far along the first axis the four products vanish: the kernel parks the points it must ignore there. -/
theorem four_far (b : ℝ) (k : Fin 100) (j : ℕ) : four |399 / 4 - (k.val : ℝ) / 2| b j = 0 := by
  rw [four_eq _ _ (abs_nonneg _)]
  refine max_eq_left ?_
  have hk : (k.val : ℝ) ≤ 99 := by exact_mod_cast (by omega : k.val ≤ 99)
  have := le_abs_self (399 / 4 - (k.val : ℝ) / 2)
  have := abs_nonneg (b - (j : ℝ))
  linarith

/-- The reference's clipped difference is the share times the bin width. -/
theorem clip_share (u v : ℝ) (k j : ℕ) :
    max (1 / 100 - 1 / 2 * (|u - 1 / 100 * ((k : ℝ) + 1 / 2)| + |v - 1 / 100 * ((j : ℝ) + 1 / 2)|)) 0
      = share (100 * u) (100 * v) k j * (1 / 100) := by
  unfold share
  have e : ∀ (w : ℝ) (n : ℕ), |w - 1 / 100 * ((n : ℝ) + 1 / 2)| = |100 * w - 1 / 2 - n| / 100 := by
    intro w n
    rw [show w - 1 / 100 * ((n : ℝ) + 1 / 2) = (100 * w - 1 / 2 - n) / 100 by ring, abs_div, abs_of_pos (by norm_num : (0 : ℝ) < 100)]
  rw [e, e, max_mul_of_nonneg _ _ (by norm_num : (0 : ℝ) ≤ 1 / 100), zero_mul, max_comm]
  congr 1; ring

end Cert.Hist

end
-- ==== Proof.Consts.lean ====
/- The float constants of the two programs as real numbers: the few words that the kernel and the reference spell, and the
   kernel's table of the hundred halves 0, 1/2, …, 99/2. -/
module

public import proofs.«01_k».proof.KernelIdeal
public import Idealize.ShloMosaic.Lib.IdealHost

@[expose] public section

set_option maxRecDepth 16384

noncomputable section

namespace Cert.Hist

open Idealize.ShloMosaic

/-- The f32 word of one half. -/
theorem half_f32 : Ideal.ofBits .f32 0x3F000000#32 = ((1 / 2 : ℝ) : EReal) := by
  simp [Ideal.ofBits, Ideal.ieee, -EReal.coe_mul]; norm_num

/-- The f32 word of one quarter. -/
theorem quarter_f32 : Ideal.ofBits .f32 0x3E800000#32 = ((1 / 4 : ℝ) : EReal) := by
  simp [Ideal.ofBits, Ideal.ieee, -EReal.coe_mul]; norm_num

/-- The f32 word of one. -/
theorem one_f32 : Ideal.ofBits .f32 0x3F800000#32 = ((1 : ℝ) : EReal) := by
  rw [Ideal.ofBits_one_f32]; norm_cast

/-- The f32 word of two. -/
theorem two_f32 : Ideal.ofBits .f32 0x40000000#32 = ((2 : ℝ) : EReal) := by
  simp [Ideal.ofBits, Ideal.ieee, -EReal.coe_mul]; norm_num

/-- The f32 word of fifty. -/
theorem fifty_f32 : Ideal.ofBits .f32 0x42480000#32 = ((50 : ℝ) : EReal) := by
  simp [Ideal.ofBits, Ideal.ieee, -EReal.coe_mul]; norm_num

/-- The f32 word of one hundred. -/
theorem hundred_f32 : Ideal.ofBits .f32 0x42C80000#32 = ((100 : ℝ) : EReal) := by
  simp [Ideal.ofBits, Ideal.ieee, -EReal.coe_mul]; norm_num

/-- The bf16 word of one half. -/
theorem half_bf16 : Ideal.ofBits .bf16 0x3F00#16 = ((1 / 2 : ℝ) : EReal) := by
  simp [Ideal.ofBits, Ideal.ieee, -EReal.coe_mul]; norm_num

/-- The bf16 word of minus one half. -/
theorem neg_half_bf16 : Ideal.ofBits .bf16 0xBF00#16 = ((-(1 / 2) : ℝ) : EReal) := by
  simp [Ideal.ofBits, Ideal.ieee, -EReal.coe_mul, -EReal.coe_neg]; norm_num

/-- The bf16 word of one. -/
theorem one_bf16 : Ideal.ofBits .bf16 0x3F80#16 = ((1 : ℝ) : EReal) := by
  rw [Ideal.ofBits_one_bf16]; norm_cast

/-- The fields of every nonzero table word: it is a positive normal number, and its significand scaled by its exponent
    is the index's half. -/
theorem table_fields : ∀ k : Fin 100, k ≠ 0 →
    (Cert.KernelIdeal.lit0 k).extractLsb' 31 1 = 0#1
    ∧ ((Cert.KernelIdeal.lit0 k).extractLsb' 23 8).toNat ≠ 255
    ∧ ((Cert.KernelIdeal.lit0 k).extractLsb' 23 8).toNat ≠ 0
    ∧ (2 ^ 23 + ((Cert.KernelIdeal.lit0 k).extractLsb' 0 23).toNat) * 2 ^ ((Cert.KernelIdeal.lit0 k).extractLsb' 23 8).toNat
        = k.val * 2 ^ 149 := by
  decide +kernel

/-- Entry `k` of the kernel's table is `k / 2`. -/
theorem table_half (k : Fin 100) : Ideal.ofBits .f32 (Cert.KernelIdeal.lit0 k) = (((k.val : ℝ) / 2 : ℝ) : EReal) := by
  by_cases hk : k = 0
  · subst hk
    rw [show Cert.KernelIdeal.lit0 0 = 0x00000000#32 from rfl, Ideal.ofBits_zero_f32]
    simp
  · obtain ⟨h1, h2, h3, h4⟩ := table_fields k hk
    have h5 : ((2 : ℝ) ^ 23 + (((Cert.KernelIdeal.lit0 k).extractLsb' 0 23).toNat : ℝ))
        * 2 ^ ((Cert.KernelIdeal.lit0 k).extractLsb' 23 8).toNat = (k.val : ℝ) * 2 ^ 149 := by exact_mod_cast h4
    show Ideal.ieee 8 23 _ = _
    generalize Cert.KernelIdeal.lit0 k = w at *
    unfold Ideal.ieee
    simp only [h1, h2, h3, Nat.reducePow, Nat.reduceSub, Nat.reduceAdd, if_false]
    congr 1
    have h6 : ((2 : ℝ) ^ (((w.extractLsb' 23 8).toNat : ℤ) - (2 ^ 7 - 1) - ((23 : ℕ) : ℤ)))
        = 2 ^ (w.extractLsb' 23 8).toNat / 2 ^ 150 := by
      rw [show (((w.extractLsb' 23 8).toNat : ℤ) - (2 ^ 7 - 1) - ((23 : ℕ) : ℤ))
        = ((w.extractLsb' 23 8).toNat : ℤ) - ((150 : ℕ) : ℤ) by norm_num; ring, zpow_sub₀ (by norm_num), zpow_natCast, zpow_natCast]
    rw [h6]
    push_cast
    simp only [show ((0#1 == 1#1) = true) = False by simp, if_false, one_mul]
    rw [← mul_div_assoc, show ((8388608 : ℝ) + ((w.extractLsb' 0 23).toNat : ℝ)) * 2 ^ (w.extractLsb' 23 8).toNat = (k.val : ℝ) * 2 ^ 149 by
      rw [← h5]; norm_num]
    rw [div_eq_div_iff (by positivity) (by norm_num)]
    ring

end Cert.Hist

end
-- ==== Proof.Point.lean ====
/- One point of the kernel, read over the extended reals: which points count, where a point lies in the kernel's units, and
   what its four products at a bin are. Nothing here mentions an array. -/
module

public import proofs.«01_k».proof.Proof.Tent
public import proofs.«01_k».proof.Proof.Consts

@[expose] public section

noncomputable section

namespace Cert.Hist

open Idealize.ShloMosaic

/-- Both coordinates are finite. -/
def Good (u v : EReal) : Prop := (u ≠ ⊤ ∧ u ≠ ⊥) ∧ (v ≠ ⊤ ∧ v ≠ ⊥)

open Classical in
/-- What a point with coordinates `u`, `v` adds to the bin with indices `k`, `j`, in units of the bin width: its share there,
    and nothing if a coordinate is infinite. -/
def tent (u v : EReal) (k j : ℕ) : ℝ :=
  if Good u v then share (100 * Int.fract u.toReal) (100 * Int.fract v.toReal) k j else 0

open Classical in
/-- The point's place along the first axis in half bins. A point that does not count is put beyond every bin. -/
def place1 (u v : EReal) : ℝ := if Good u v then 1 / 2 * (100 * Int.fract u.toReal) - 1 / 4 else 399 / 4

open Classical in
/-- The point's place along the second axis in bins. -/
def place2 (u v : EReal) : ℝ := if Good u v then 100 * Int.fract v.toReal - 1 / 2 else 399 / 2

/-- The four products at the point's place are its share. -/
theorem four_place (u v : EReal) (k : Fin 100) (j : ℕ) :
    four |place1 u v - (k.val : ℝ) / 2| (place2 u v) j = tent u v k.val j := by
  unfold place1 place2 tent
  by_cases h : Good u v
  · rw [if_pos h, if_pos h, if_pos h, four_share]
  · rw [if_neg h, if_neg h, if_neg h, four_far]

/-- A finite sum of reals, read over the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The kernel's test of a point: not an infinite coordinate. -/
theorem mask_eq (u v : EReal) :
    IntOp.andi (IntOp.xori (FloatOps.weird (F := Ideal) u) 1#1)
      (IntOp.xori (FloatOps.weird (F := Ideal) v) 1#1) = BitVec.ofBool (@decide (Good u v) (Classical.dec _)) := by
  have hw : ∀ x : EReal, FloatOps.weird (F := Ideal) x = BitVec.ofBool (decide (x = ⊤ ∨ x = ⊥)) := fun _ => rfl
  rw [hw, hw]
  by_cases a : u = ⊤ ∨ u = ⊥ <;> by_cases b : v = ⊤ ∨ v = ⊥
  · have : ¬ Good u v := fun g => a.elim g.1.1 g.1.2
    simp only [a, b, this, decide_true, decide_false]
    decide
  · have : ¬ Good u v := fun g => a.elim g.1.1 g.1.2
    simp only [a, b, this, decide_true, decide_false]
    decide
  · have : ¬ Good u v := fun g => b.elim g.2.1 g.2.2
    simp only [a, b, this, decide_true, decide_false]
    decide
  · have : Good u v := ⟨not_or.mp a, not_or.mp b⟩
    simp only [a, b, this, decide_true, decide_false]
    decide

/-- The fractional part as the kernel takes it, at a finite number. -/
theorem sub_floor (x : EReal) (h : x ≠ ⊤ ∧ x ≠ ⊥) :
    x - Ideal.liftRound Int.floor x = ((Int.fract x.toReal : ℝ) : EReal) := by
  lift x to ℝ using h
  rw [Ideal.liftRound_coe, ← EReal.coe_sub, EReal.toReal_coe]
  rfl

/-- The chosen fractional part of a point that counts, or the stand-in `2`. -/
theorem select_fract (u v x : EReal) (hx : Good u v → x ≠ ⊤ ∧ x ≠ ⊥) :
    Scalar.select (IntOp.andi (IntOp.xori (FloatOps.weird (F := Ideal) u) 1#1)
      (IntOp.xori (FloatOps.weird (F := Ideal) v) 1#1))
      (x - Ideal.liftRound Int.floor x) (Ideal.ofBits .f32 0x40000000#32)
      = (((@ite _ (Good u v) (Classical.dec _) (Int.fract x.toReal) 2 : ℝ)) : EReal) := by
  rw [mask_eq, two_f32]
  by_cases h : Good u v
  · rw [if_pos h, sub_floor x (hx h)]
    simp only [h, decide_true]
    rfl
  · rw [if_neg h]
    simp only [h, decide_false]
    rfl

/-- The kernel's first place. -/
theorem place1_eq (u v : EReal) :
    Scalar.select (IntOp.andi (IntOp.xori (FloatOps.weird (F := Ideal) u) 1#1)
      (IntOp.xori (FloatOps.weird (F := Ideal) v) 1#1))
      (u - Ideal.liftRound Int.floor u) (Ideal.ofBits .f32 0x40000000#32) * Ideal.ofBits .f32 0x42480000#32
      - Ideal.ofBits .f32 0x3E800000#32 = ((place1 u v : ℝ) : EReal) := by
  rw [select_fract u v u (fun g => g.1), fifty_f32, quarter_f32, ← EReal.coe_mul, ← EReal.coe_sub]
  congr 1
  unfold place1
  split_ifs <;> ring

/-- The kernel's second place. -/
theorem place2_eq (u v : EReal) :
    Scalar.select (IntOp.andi (IntOp.xori (FloatOps.weird (F := Ideal) u) 1#1)
      (IntOp.xori (FloatOps.weird (F := Ideal) v) 1#1))
      (v - Ideal.liftRound Int.floor v) (Ideal.ofBits .f32 0x40000000#32) * Ideal.ofBits .f32 0x42C80000#32
      - Ideal.ofBits .f32 0x3F000000#32 = ((place2 u v : ℝ) : EReal) := by
  rw [select_fract u v v (fun g => g.2), hundred_f32, half_f32, ← EReal.coe_mul, ← EReal.coe_sub]
  congr 1
  unfold place2
  split_ifs <;> ring

/-- The larger of two reals, read over the extended reals. -/
theorem coe_max (a b : ℝ) : ((max a b : ℝ) : EReal) = max (a : EReal) (b : EReal) :=
  (EReal.coe_strictMono.monotone.map_max)

/-- The absolute value of a real. -/
theorem abs_coe (r : ℝ) : FloatOps.absf (F := Ideal) (φ := .f32) ((r : ℝ) : EReal) = ((|r| : ℝ) : EReal) := by
  show max (r : EReal) (-(r : EReal)) = _
  rw [← EReal.coe_neg, ← coe_max, abs_eq_max_neg]

/-- One product: a clipped real against a zero-or-one weight that asks for the value `e`. -/
theorem clip_flag_of (w r c : ℝ) (e : EReal) (he : e = (c : EReal)) [Decidable ((r : EReal) = e)] :
    max (w : EReal) 0 * (if (r : EReal) = e then 1 else 0) = ((max w 0 * flag (r = c) : ℝ) : EReal) := by
  subst he
  rw [EReal.coe_mul, coe_max, EReal.coe_zero]
  congr 1
  unfold flag
  by_cases h : r = c
  · rw [if_pos h, if_pos (by rw [h]), EReal.coe_one]
  · rw [if_neg h, if_neg (fun e => h (EReal.coe_injective e)), EReal.coe_zero]

/-- The product whose weight asks for a given real. -/
theorem clip_flag (w r c : ℝ) [Decidable ((r : EReal) = (c : EReal))] :
    max (w : EReal) 0 * (if (r : EReal) = (c : EReal) then 1 else 0) = ((max w 0 * flag (r = c) : ℝ) : EReal) :=
  clip_flag_of w r c _ rfl

/-- The product whose weight asks for nothing. -/
theorem clip_flag_zero (w r : ℝ) [Decidable ((r : EReal) = 0)] :
    max (w : EReal) 0 * (if (r : EReal) = 0 then 1 else 0) = ((max w 0 * flag (r = 0) : ℝ) : EReal) :=
  clip_flag_of w r 0 _ EReal.coe_zero.symm

/-- The product whose weight asks for one. -/
theorem clip_flag_one (w r : ℝ) [Decidable ((r : EReal) = 1)] :
    max (w : EReal) 0 * (if (r : EReal) = 1 then 1 else 0) = ((max w 0 * flag (r = 1) : ℝ) : EReal) :=
  clip_flag_of w r 1 _ EReal.coe_one.symm

/-- A sum over 2048 points is the sum of eight sums over 256. -/
theorem sum_tiles (F : Fin 2048 → EReal) :
    ∑ n, F n = ∑ x : Fin 256, F ⟨x.val, by omega⟩ + ∑ x : Fin 256, F ⟨256 + x.val, by omega⟩
      + ∑ x : Fin 256, F ⟨512 + x.val, by omega⟩ + ∑ x : Fin 256, F ⟨768 + x.val, by omega⟩
      + ∑ x : Fin 256, F ⟨1024 + x.val, by omega⟩ + ∑ x : Fin 256, F ⟨1280 + x.val, by omega⟩
      + ∑ x : Fin 256, F ⟨1536 + x.val, by omega⟩ + ∑ x : Fin 256, F ⟨1792 + x.val, by omega⟩ := by
  have hs : ∀ s : Fin 8, ∀ x : Fin 256, 256 * s.val + x.val < 2048 := fun s x => by omega
  have h : ∑ n, F n = ∑ s : Fin 8, ∑ x : Fin 256, F ⟨256 * s.val + x.val, hs s x⟩ := by
    rw [← Fintype.sum_prod_type']
    refine (Fintype.sum_equiv (finProdFinEquiv (m := 8) (n := 256)) _ _ fun y => ?_).symm
    congr 1
    exact Fin.ext (Nat.add_comm _ _)
  rw [h, Fin.sum_univ_eight]
  have h0 : ∀ x : Fin 256, (⟨256 * (0 : Fin 8).val + x.val, hs 0 x⟩ : Fin 2048) = ⟨x.val, by omega⟩ := fun x =>
    Fin.ext (Nat.zero_add _)
  simp only [h0]
  rfl

end Cert.Hist
-- ==== Proof.Batch.lean ====
/- What the two batches' bodies add to a bin, at an index: the bin's old contents and the sum over the 2048 points of the block of
   what each point adds. The two bodies are the same text over two halves of the block, named apart by the generator. -/
module

public import proofs.«01_k».proof.Proof.Point
public import proofs.«01_k».proof.Proof.Gen.KernelIdeal.Skeleton
public import Idealize.ShloMosaic.Lib.Pointwise

@[expose] public section

set_option maxRecDepth 16384

noncomputable section

namespace Cert.Hist

open Cert.KernelIdeal Cert.KernelIdeal.Gen Idealize.ShloMosaic

/-- What the body stores for the first batch, over the two tables, the block of points and the old contents. -/
def batch0 (io : Vec Ideal S100x256 .f32) (ib : Vec Ideal S100x256 .bf16) (X : Vec Ideal S1x2x2048 .f32)
    (P : Vec Ideal S1x100x100 .f32) : FVec Ideal S1x100x100 .f32 :=
  k0_pay79 (k0_pay73 io (k0_pay9 X) (k0_pay15 (k0_pay12 X) k0_pay14)) (k0_pay74 (k0_pay4 ib) (k0_pay16 (k0_pay11 X))) (k0_pay75 io (k0_pay9 X) (k0_pay15 (k0_pay12 X) k0_pay14))
            (k0_pay76 io (k0_pay4 ib) (k0_pay9 X) (k0_pay13 X) (k0_pay16 (k0_pay11 X)) (k0_pay65 (k0_pay4 ib) (k0_pay16 (k0_pay11 X))) (k0_pay66 io (k0_pay9 X) (k0_pay15 (k0_pay12 X) k0_pay14))
              (k0_pay67 io (k0_pay4 ib) (k0_pay9 X) (k0_pay13 X) (k0_pay16 (k0_pay11 X))
                (k0_pay61
                  (k0_pay54 (k0_pay49 io (k0_pay9 X) (k0_pay15 (k0_pay12 X) k0_pay14)) (k0_pay50 (k0_pay4 ib) (k0_pay16 (k0_pay11 X))) (k0_pay51 io (k0_pay9 X) (k0_pay15 (k0_pay12 X) k0_pay14))
                    (k0_pay52 io (k0_pay4 ib) (k0_pay9 X) (k0_pay13 X) (k0_pay16 (k0_pay11 X)) (k0_pay42 (k0_pay4 ib) (k0_pay16 (k0_pay11 X))) (k0_pay43 io (k0_pay9 X) (k0_pay15 (k0_pay12 X) k0_pay14))
                      (k0_pay44 io (k0_pay4 ib) (k0_pay9 X) (k0_pay13 X) (k0_pay16 (k0_pay11 X))
                        (k0_pay35
                          (k0_pay29 (k0_pay24 io (k0_pay9 X) (k0_pay13 X)) (k0_pay25 io (k0_pay9 X) (k0_pay15 (k0_pay12 X) k0_pay14)) (k0_pay26 (k0_pay4 ib) (k0_pay16 (k0_pay11 X))) (k0_pay27 io (k0_pay9 X) (k0_pay15 (k0_pay12 X) k0_pay14))
                            (k0_pay28 io (k0_pay4 ib) (k0_pay9 X) (k0_pay13 X) (k0_pay16 (k0_pay11 X)) (k0_pay19 (k0_pay4 ib) (k0_pay11 X))
                              (k0_pay20 io (k0_pay9 X) (k0_pay12 X) k0_pay14) (k0_pay21 io (k0_pay4 ib) (k0_pay9 X) (k0_pay11 X) (k0_pay13 X))
                              (k0_pay22 io (k0_pay9 X) (k0_pay12 X) k0_pay14)))
                          (k0_pay31 io (k0_pay9 X) (k0_pay13 X)) (k0_pay32 io (k0_pay9 X) (k0_pay15 (k0_pay12 X) k0_pay14)) (k0_pay33 (k0_pay4 ib) (k0_pay16 (k0_pay11 X))) k0_pay34)
                        (k0_pay36 (k0_pay32 io (k0_pay9 X) (k0_pay15 (k0_pay12 X) k0_pay14))) (k0_pay37 (k0_pay33 (k0_pay4 ib) (k0_pay16 (k0_pay11 X)))) k0_pay38 k0_pay39)
                      (k0_pay45 io (k0_pay9 X) (k0_pay15 (k0_pay12 X) k0_pay14)) (k0_pay46 (k0_pay4 ib) (k0_pay16 (k0_pay11 X))))
                    (k0_pay53 io (k0_pay9 X) (k0_pay13 X)))
                  (k0_pay56 io (k0_pay9 X) (k0_pay13 X)) (k0_pay57 io (k0_pay9 X) (k0_pay15 (k0_pay12 X) k0_pay14)) (k0_pay58 (k0_pay4 ib) (k0_pay16 (k0_pay11 X))) (k0_pay59 io (k0_pay9 X) (k0_pay13 X)))
                (k0_pay62 (k0_pay57 io (k0_pay9 X) (k0_pay15 (k0_pay12 X) k0_pay14)) (k0_pay58 (k0_pay4 ib) (k0_pay16 (k0_pay11 X))) k0_pay60))
              (k0_pay68 io (k0_pay9 X) (k0_pay15 (k0_pay12 X) k0_pay14)) (k0_pay69 (k0_pay4 ib) (k0_pay16 (k0_pay11 X))) (FloatOps.ofBits FTy.bf16 0#16) k0_pay70)
            (k0_pay77 io (k0_pay9 X) (k0_pay13 X)) k0_pay78
            P

/-- What the body stores for the second batch. -/
def batch1 (io : Vec Ideal S100x256 .f32) (ib : Vec Ideal S100x256 .bf16) (X : Vec Ideal S1x2x2048 .f32)
    (P : Vec Ideal S1x100x100 .f32) : FVec Ideal S1x100x100 .f32 :=
  k0_pay1 (k0_pay152 (k0_pay4 ib) (k0_pay91 (k0_pay82 X) (k0_pay83 X))) (k0_pay153 io (k0_pay90 (k0_pay82 X) (k0_pay83 X)) (k0_pay149 (k0_pay85 (k0_pay81 X) (k0_pay82 X) (k0_pay83 X))))
            (k0_pay154 io (k0_pay4 ib) (k0_pay89 (k0_pay82 X) (k0_pay83 X)) (k0_pay91 (k0_pay82 X) (k0_pay83 X))
              (k0_pay148
                (k0_pay140 (k0_pay134 io (k0_pay85 (k0_pay81 X) (k0_pay82 X) (k0_pay83 X)) (k0_pay90 (k0_pay82 X) (k0_pay83 X))) (k0_pay135 (k0_pay4 ib) (k0_pay91 (k0_pay82 X) (k0_pay83 X))) (k0_pay136 io (k0_pay85 (k0_pay81 X) (k0_pay82 X) (k0_pay83 X)) (k0_pay90 (k0_pay82 X) (k0_pay83 X)))
                  (k0_pay137 io (k0_pay4 ib) (k0_pay85 (k0_pay81 X) (k0_pay82 X) (k0_pay83 X)) (k0_pay89 (k0_pay82 X) (k0_pay83 X)) (k0_pay91 (k0_pay82 X) (k0_pay83 X)) (k0_pay126 (k0_pay4 ib) (k0_pay91 (k0_pay82 X) (k0_pay83 X))) (k0_pay127 io (k0_pay85 (k0_pay81 X) (k0_pay82 X) (k0_pay83 X)) (k0_pay90 (k0_pay82 X) (k0_pay83 X)))
                    (k0_pay128 io (k0_pay4 ib) (k0_pay85 (k0_pay81 X) (k0_pay82 X) (k0_pay83 X)) (k0_pay89 (k0_pay82 X) (k0_pay83 X)) (k0_pay91 (k0_pay82 X) (k0_pay83 X))
                      (k0_pay122
                        (k0_pay115 (k0_pay110 io (k0_pay85 (k0_pay81 X) (k0_pay82 X) (k0_pay83 X)) (k0_pay90 (k0_pay82 X) (k0_pay83 X))) (k0_pay111 (k0_pay4 ib) (k0_pay91 (k0_pay82 X) (k0_pay83 X))) (k0_pay112 io (k0_pay85 (k0_pay81 X) (k0_pay82 X) (k0_pay83 X)) (k0_pay90 (k0_pay82 X) (k0_pay83 X)))
                          (k0_pay113 io (k0_pay4 ib) (k0_pay85 (k0_pay81 X) (k0_pay82 X) (k0_pay83 X)) (k0_pay89 (k0_pay82 X) (k0_pay83 X)) (k0_pay91 (k0_pay82 X) (k0_pay83 X)) (k0_pay103 (k0_pay4 ib) (k0_pay91 (k0_pay82 X) (k0_pay83 X))) (k0_pay104 io (k0_pay85 (k0_pay81 X) (k0_pay82 X) (k0_pay83 X)) (k0_pay90 (k0_pay82 X) (k0_pay83 X)))
                            (k0_pay105 io (k0_pay4 ib) (k0_pay85 (k0_pay81 X) (k0_pay82 X) (k0_pay83 X)) (k0_pay89 (k0_pay82 X) (k0_pay83 X)) (k0_pay91 (k0_pay82 X) (k0_pay83 X))
                              (k0_pay96 (k0_pay93 io (k0_pay81 X) (k0_pay82 X) (k0_pay83 X))
                                (k0_pay94 io (k0_pay81 X) (k0_pay82 X) (k0_pay83 X))
                                (k0_pay95 (k0_pay4 ib) (k0_pay82 X) (k0_pay83 X)) (FloatOps.ofBits FTy.f32 1056964608#32))
                              (k0_pay97 (k0_pay94 io (k0_pay81 X) (k0_pay82 X) (k0_pay83 X)))
                              (k0_pay98 (k0_pay95 (k0_pay4 ib) (k0_pay82 X) (k0_pay83 X))) k0_pay99 k0_pay100)
                            (k0_pay106 io (k0_pay85 (k0_pay81 X) (k0_pay82 X) (k0_pay83 X)) (k0_pay90 (k0_pay82 X) (k0_pay83 X))) (k0_pay107 (k0_pay4 ib) (k0_pay91 (k0_pay82 X) (k0_pay83 X))))
                          (k0_pay114 io (k0_pay85 (k0_pay81 X) (k0_pay82 X) (k0_pay83 X)) (k0_pay89 (k0_pay82 X) (k0_pay83 X))))
                        (k0_pay117 io (k0_pay85 (k0_pay81 X) (k0_pay82 X) (k0_pay83 X)) (k0_pay89 (k0_pay82 X) (k0_pay83 X))) (k0_pay118 io (k0_pay85 (k0_pay81 X) (k0_pay82 X) (k0_pay83 X)) (k0_pay90 (k0_pay82 X) (k0_pay83 X))) (k0_pay119 (k0_pay4 ib) (k0_pay91 (k0_pay82 X) (k0_pay83 X))) (k0_pay120 io (k0_pay85 (k0_pay81 X) (k0_pay82 X) (k0_pay83 X)) (k0_pay89 (k0_pay82 X) (k0_pay83 X))))
                      (k0_pay123 (k0_pay118 io (k0_pay85 (k0_pay81 X) (k0_pay82 X) (k0_pay83 X)) (k0_pay90 (k0_pay82 X) (k0_pay83 X))) (k0_pay119 (k0_pay4 ib) (k0_pay91 (k0_pay82 X) (k0_pay83 X))) k0_pay121))
                    (k0_pay129 io (k0_pay85 (k0_pay81 X) (k0_pay82 X) (k0_pay83 X)) (k0_pay90 (k0_pay82 X) (k0_pay83 X))) (k0_pay130 (k0_pay4 ib) (k0_pay91 (k0_pay82 X) (k0_pay83 X))) (FloatOps.ofBits FTy.bf16 0#16) k0_pay131)
                  (k0_pay138 io (k0_pay85 (k0_pay81 X) (k0_pay82 X) (k0_pay83 X)) (k0_pay89 (k0_pay82 X) (k0_pay83 X))) k0_pay139)
                (k0_pay142 io (k0_pay85 (k0_pay81 X) (k0_pay82 X) (k0_pay83 X)) (k0_pay89 (k0_pay82 X) (k0_pay83 X))) (k0_pay143 io (k0_pay85 (k0_pay81 X) (k0_pay82 X) (k0_pay83 X)) (k0_pay90 (k0_pay82 X) (k0_pay83 X))) (k0_pay144 (k0_pay4 ib) (k0_pay91 (k0_pay82 X) (k0_pay83 X))) (k0_pay145 io (k0_pay85 (k0_pay81 X) (k0_pay82 X) (k0_pay83 X)) (k0_pay89 (k0_pay82 X) (k0_pay83 X)))
                (k0_pay146 io (k0_pay85 (k0_pay81 X) (k0_pay82 X) (k0_pay83 X)) (k0_pay90 (k0_pay82 X) (k0_pay83 X))) k0_pay147)
              (k0_pay149 (k0_pay85 (k0_pay81 X) (k0_pay82 X) (k0_pay83 X))))
            (k0_pay155 io (k0_pay90 (k0_pay82 X) (k0_pay83 X)) (k0_pay149 (k0_pay85 (k0_pay81 X) (k0_pay82 X) (k0_pay83 X)))) (k0_pay156 (k0_pay4 ib) (k0_pay91 (k0_pay82 X) (k0_pay83 X))) (constant S100x100 FTy.f32 0#32)
            P

section Atoms

variable (X : Vec Ideal S1x2x2048 .f32) (n : Fin 2048)

/-- The second place of point `n` of a block. -/
abbrev at2 : ℝ := place2 (X (ix3 0 0 n)) (X (ix3 0 1 n))

/-- The first place of point `n` of a block. -/
abbrev at1 : ℝ := place1 (X (ix3 0 0 n)) (X (ix3 0 1 n))

/-- First batch: the second place. -/
theorem beta0 : k0_pay10 X (ix2 0 n) = ((at2 X n : ℝ) : EReal) := by
  pointwise [k0_pay10, k0_pay8, k0_pay7, k0_pay6, k0_pay5]
  exact place2_eq _ _

/-- First batch: its floor. -/
theorem floor0 : k0_pay11 X (ix2 0 n) = (((⌊at2 X n⌋ : ℤ) : ℝ) : EReal) := by
  pointwise [k0_pay11]
  rw [beta0, Ideal.liftRound_coe]

/-- First batch: its fractional part. -/
theorem frac0 : k0_pay12 X (ix2 0 n) = ((at2 X n - ⌊at2 X n⌋ : ℝ) : EReal) := by
  pointwise [k0_pay12]
  rw [beta0, floor0, ← EReal.coe_sub]

/-- First batch: the first place. -/
theorem su0 : k0_pay9 X (ix2 0 n) = ((at1 X n : ℝ) : EReal) := by
  pointwise [k0_pay9, k0_pay8, k0_pay7, k0_pay6, k0_pay5]
  exact place1_eq _ _

/-- First batch: the nearer column's height. -/
theorem near0 : k0_pay13 X (ix2 0 n) = ((1 - 1 / 2 * (at2 X n - ⌊at2 X n⌋) : ℝ) : EReal) := by
  pointwise [k0_pay13]
  simp only [frac0, half_f32, one_f32, EReal.coe_sub, EReal.coe_mul, EReal.coe_one]

/-- First batch: the farther column's height. -/
theorem far0 : k0_pay15 (k0_pay12 X) k0_pay14 (ix2 0 n) = ((1 / 2 + 1 / 2 * (at2 X n - ⌊at2 X n⌋) : ℝ) : EReal) := by
  pointwise [k0_pay15, k0_pay14]
  rw [frac0, half_f32, ← EReal.coe_mul, ← EReal.coe_add]

/-- First batch: half the floor. -/
theorem halfFloor0 : k0_pay16 (k0_pay11 X) (ix2 0 n) = ((1 / 2 * (⌊at2 X n⌋ : ℝ) : ℝ) : EReal) := by
  pointwise [k0_pay16]
  rw [floor0, half_f32, ← EReal.coe_mul]

/-- Second batch: the second place. -/
theorem beta1 : k0_pay86 (k0_pay82 X) (k0_pay83 X) (ix2 0 n) = ((at2 X n : ℝ) : EReal) := by
  pointwise [k0_pay86, k0_pay84, k0_pay83, k0_pay82, k0_pay81, k0_pay80]
  exact place2_eq _ _

/-- Second batch: its floor. -/
theorem floor1 : k0_pay87 (k0_pay82 X) (k0_pay83 X) (ix2 0 n) = (((⌊at2 X n⌋ : ℤ) : ℝ) : EReal) := by
  pointwise [k0_pay87]
  rw [beta1, Ideal.liftRound_coe]

/-- Second batch: its fractional part. -/
theorem frac1 : k0_pay88 (k0_pay82 X) (k0_pay83 X) (ix2 0 n) = ((at2 X n - ⌊at2 X n⌋ : ℝ) : EReal) := by
  pointwise [k0_pay88]
  rw [beta1, floor1, ← EReal.coe_sub]

/-- Second batch: the first place. -/
theorem su1 : k0_pay85 (k0_pay81 X) (k0_pay82 X) (k0_pay83 X) (ix2 0 n) = ((at1 X n : ℝ) : EReal) := by
  pointwise [k0_pay85, k0_pay84, k0_pay83, k0_pay82, k0_pay81, k0_pay80]
  exact place1_eq _ _

/-- Second batch: the nearer column's height. -/
theorem near1 : k0_pay89 (k0_pay82 X) (k0_pay83 X) (ix2 0 n) = ((1 - 1 / 2 * (at2 X n - ⌊at2 X n⌋) : ℝ) : EReal) := by
  pointwise [k0_pay89]
  simp only [frac1, half_f32, one_f32, EReal.coe_sub, EReal.coe_mul, EReal.coe_one]

/-- Second batch: the farther column's height. -/
theorem far1 : k0_pay90 (k0_pay82 X) (k0_pay83 X) (ix2 0 n) = ((1 / 2 + 1 / 2 * (at2 X n - ⌊at2 X n⌋) : ℝ) : EReal) := by
  pointwise [k0_pay90]
  rw [frac1, half_f32, ← EReal.coe_mul, ← EReal.coe_add]

/-- Second batch: half the floor. -/
theorem halfFloor1 : k0_pay91 (k0_pay82 X) (k0_pay83 X) (ix2 0 n) = ((1 / 2 * (⌊at2 X n⌋ : ℝ) : ℝ) : EReal) := by
  pointwise [k0_pay91]
  rw [floor1, half_f32, ← EReal.coe_mul]

end Atoms

section Bodies

variable (io : Vec Ideal S100x256 .f32) (ib : Vec Ideal S100x256 .bf16) (X : Vec Ideal S1x2x2048 .f32)
  (P : Vec Ideal S1x100x100 .f32) (hio : ∀ k x, io (ix2 k x) = ((k.val / 2 : ℝ) : EReal))
  (hib : ∀ k x, ib (ix2 k x) = ((k.val / 2 : ℝ) : EReal)) (k j : Fin 100)

/-- The sum over the block of what its points add, opened into the kernel's products, eight sub-blocks of four sums. -/
theorem sum_open : ∑ n : Fin 2048, ((tent (X (ix3 0 0 n)) (X (ix3 0 1 n)) k.val j.val : ℝ) : EReal)
    = ∑ n : Fin 2048, ((four |at1 X n - (k.val : ℝ) / 2| (at2 X n) j.val : ℝ) : EReal) :=
  Finset.sum_congr rfl fun n _ => by rw [four_place]

include hio hib in
/-- The first batch's body at an index. -/
theorem batch0_apply : batch0 io ib X P (ix3 0 k j)
    = P (ix3 0 k j) + ∑ n : Fin 2048, ((tent (X (ix3 0 0 n)) (X (ix3 0 1 n)) k.val j.val : ℝ) : EReal) := by
  rw [sum_open, sum_tiles]
  pointwise [batch0, k0_pay4, k0_pay17, k0_pay18, k0_pay19, k0_pay20, k0_pay21, k0_pay22, k0_pay23, k0_pay24, k0_pay25, k0_pay26, k0_pay27, k0_pay28,
    k0_pay29, k0_pay30, k0_pay31, k0_pay32, k0_pay33, k0_pay34, k0_pay35, k0_pay36, k0_pay37, k0_pay38, k0_pay39, k0_pay40,
    k0_pay41, k0_pay42, k0_pay43, k0_pay44, k0_pay45, k0_pay46, k0_pay47, k0_pay48, k0_pay49, k0_pay50, k0_pay51, k0_pay52,
    k0_pay53, k0_pay54, k0_pay55, k0_pay56, k0_pay57, k0_pay58, k0_pay59, k0_pay60, k0_pay61, k0_pay62, k0_pay63, k0_pay64,
    k0_pay65, k0_pay66, k0_pay67, k0_pay68, k0_pay69, k0_pay70, k0_pay71, k0_pay72, k0_pay73, k0_pay74, k0_pay75, k0_pay76,
    k0_pay77, k0_pay78, k0_pay79]
  simp only [hio, hib, su0, near0, far0, halfFloor0, abs_coe, half_f32, neg_half_bf16, half_bf16, ← EReal.coe_sub,
    clip_flag, clip_flag_zero, clip_flag_one]
  simp only [four, EReal.coe_add, Finset.sum_add_distrib, ← add_assoc]

include hio hib in
/-- The second batch's body at an index. -/
theorem batch1_apply : batch1 io ib X P (ix3 0 k j)
    = P (ix3 0 k j) + ∑ n : Fin 2048, ((tent (X (ix3 0 0 n)) (X (ix3 0 1 n)) k.val j.val : ℝ) : EReal) := by
  rw [sum_open, sum_tiles]
  pointwise [batch1, k0_pay4, k0_pay1, k0_pay92, k0_pay93, k0_pay94, k0_pay95, k0_pay96, k0_pay97, k0_pay98, k0_pay99, k0_pay100, k0_pay101, k0_pay102, k0_pay103,
    k0_pay104, k0_pay105, k0_pay106, k0_pay107, k0_pay108, k0_pay109, k0_pay110, k0_pay111, k0_pay112, k0_pay113, k0_pay114,
    k0_pay115, k0_pay116, k0_pay117, k0_pay118, k0_pay119, k0_pay120, k0_pay121, k0_pay122, k0_pay123, k0_pay124, k0_pay125,
    k0_pay126, k0_pay127, k0_pay128, k0_pay129, k0_pay130, k0_pay131, k0_pay132, k0_pay133, k0_pay134, k0_pay135, k0_pay136,
    k0_pay137, k0_pay138, k0_pay139, k0_pay140, k0_pay141, k0_pay142, k0_pay143, k0_pay144, k0_pay145, k0_pay146, k0_pay147,
    k0_pay148, k0_pay149, k0_pay150, k0_pay151, k0_pay152, k0_pay153, k0_pay154, k0_pay155, k0_pay156]
  simp only [hio, hib, su1, near1, far1, halfFloor1, abs_coe, half_f32, neg_half_bf16, half_bf16, ← EReal.coe_sub,
    clip_flag, clip_flag_zero, clip_flag_one]
  simp only [four, EReal.coe_add, Finset.sum_add_distrib, ← add_assoc]

end Bodies

end Cert.Hist
-- ==== Proof.Blocks.lean ====
/- What one grid point leaves in the output's buffer, at an index: the old contents and the sum of what the point's block of 2048
   points adds, which the last grid point divides by the batch's total. -/
module

public import proofs.«01_k».proof.Proof.Batch
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Hist

open Cert.KernelIdeal Cert.KernelIdeal.Gen Idealize.ShloMosaic Idealize.ShloMosaic.TcCoe Idealize.SL.Sem

/-- What a block of points adds to each bin of each batch. -/
def adds (X : Vec Ideal S2x2x2048 .f32) : Vec Ideal S2x100x100 .f32 := fun i =>
  ∑ n : Fin 2048, ((tent (X (ix3 (i 0) 0 n)) (X (ix3 (i 0) 1 n)) (i 1).val (i 2).val : ℝ) : EReal)

/-- The old contents and what a block adds. -/
def grown (P : Vec Ideal S2x100x100 .f32) (X : Vec Ideal S2x2x2048 .f32) : Vec Ideal S2x100x100 .f32 := fun i =>
  P i + adds X i

section Half

/-- Index of batch `b`'s half of the block of points. -/
theorem emb_points (b : Fin 2) (inb : ∀ a, (![b.val, 0, 0] : Fin 3 → ℕ) a + (![1, 2, 2048] : Fin 3 → ℕ) a ≤ S2x2x2048.size a)
    (a : Fin 2) (n : Fin 2048) : (Rect.unit ![b.val, 0, 0] ![1, 2, 2048] inb).emb (ix3 0 a n) = (ix3 b a n : S2x2x2048.Idx) := by
  funext d
  apply Fin.ext
  fin_cases d <;> simp [Rect.emb, Rect.unit]

/-- Index of batch `b`'s half of the bins. -/
theorem emb_bins (b : Fin 2) (inb : ∀ a, (![b.val, 0, 0] : Fin 3 → ℕ) a + (![1, 100, 100] : Fin 3 → ℕ) a ≤ S2x100x100.size a)
    (k j : Fin 100) : (Rect.unit ![b.val, 0, 0] ![1, 100, 100] inb).emb (ix3 0 k j) = (ix3 b k j : S2x100x100.Idx) := by
  funext d
  apply Fin.ext
  fin_cases d <;> simp [Rect.emb, Rect.unit]

/-- The first batch's bins, for an index of the whole. -/
theorem mem_bins0 (i : S2x100x100.Idx) (h : (i 0).val = 0) :
    i ∈ (Rect.unit ![0, 0, 0] ![1, 100, 100] inb_S2x100x100_S1x100x100_0_0_0).set := by
  rw [Rect.mem_set_unit]
  have h1 : (i 1).val < 100 := (i 1).isLt
  have h2 : (i 2).val < 100 := (i 2).isLt
  intro a
  fin_cases a <;> simp <;> omega

/-- The second batch's bins, for an index of the whole. -/
theorem mem_bins1 (i : S2x100x100.Idx) (h : (i 0).val = 1) :
    i ∈ (Rect.unit ![1, 0, 0] ![1, 100, 100] inb_S2x100x100_S1x100x100_1_0_0).set := by
  rw [Rect.mem_set_unit]
  have h1 : (i 1).val < 100 := (i 1).isLt
  have h2 : (i 2).val < 100 := (i 2).isLt
  intro a
  fin_cases a <;> simp <;> omega

end Half

section Stores

variable (io : Vec Ideal S100x256 .f32) (ib : Vec Ideal S100x256 .bf16) (X : Vec Ideal S2x2x2048 .f32)
  (P : Vec Ideal S2x100x100 .f32)

/-- The two stores of a grid point: each batch's bins. -/
abbrev stores : List (View.Piece (Elt Ideal) S2x100x100 .f32) :=
  [⟨Rect.unit ![1, 0, 0] ![1, 100, 100] inb_S2x100x100_S1x100x100_1_0_0,
      batch1 io ib (View.ld X (Rect.unit ![1, 0, 0] ![1, 2, 2048] inb_S2x2x2048_S1x2x2048_1_0_0))
        (View.ld P (Rect.unit ![1, 0, 0] ![1, 100, 100] inb_S2x100x100_S1x100x100_1_0_0))⟩,
    ⟨Rect.unit ![0, 0, 0] ![1, 100, 100] inb_S2x100x100_S1x100x100_0_0_0,
      batch0 io ib (View.ld X (Rect.unit ![0, 0, 0] ![1, 2, 2048] inb_S2x2x2048_S1x2x2048_0_0_0))
        (View.ld P (Rect.unit ![0, 0, 0] ![1, 100, 100] inb_S2x100x100_S1x100x100_0_0_0))⟩]

variable (hio : ∀ k x, io (ix2 k x) = ((k.val / 2 : ℝ) : EReal)) (hib : ∀ k x, ib (ix2 k x) = ((k.val / 2 : ℝ) : EReal))

include hio hib in
/-- Both stores write what the grown contents hold there. -/
theorem stores_grown : View.PiecesOf (grown P X) (stores io ib X P) := by
  refine ⟨fun x => ?_, fun x => ?_, trivial⟩
  · obtain ⟨a, k, j, rfl⟩ : ∃ (a : Fin 1) (k j : Fin 100), x = ix3 a k j := ⟨x 0, x 1, x 2, by idx_vars x⟩
    obtain rfl : a = 0 := Subsingleton.elim _ _
    have e : ∀ (a : Fin 2) (n : Fin 2048), View.ld X (Rect.unit ![1, 0, 0] ![1, 2, 2048] inb_S2x2x2048_S1x2x2048_1_0_0) (ix3 0 a n)
      = X (ix3 1 a n) := fun a n => congrArg X (emb_points 1 inb_S2x2x2048_S1x2x2048_1_0_0 a n)
    refine (batch1_apply io ib _ _ hio hib k j).trans ?_
    simp only [e]
    rw [show (Rect.unit ![1, 0, 0] ![1, 100, 100] inb_S2x100x100_S1x100x100_1_0_0).emb (ix3 0 k j) = (ix3 1 k j : S2x100x100.Idx) from
      emb_bins 1 inb_S2x100x100_S1x100x100_1_0_0 k j]
    exact congrArg (fun y => P y + _) (emb_bins 1 inb_S2x100x100_S1x100x100_1_0_0 k j)
  · obtain ⟨a, k, j, rfl⟩ : ∃ (a : Fin 1) (k j : Fin 100), x = ix3 a k j := ⟨x 0, x 1, x 2, by idx_vars x⟩
    obtain rfl : a = 0 := Subsingleton.elim _ _
    have e : ∀ (a : Fin 2) (n : Fin 2048), View.ld X (Rect.unit ![0, 0, 0] ![1, 2, 2048] inb_S2x2x2048_S1x2x2048_0_0_0) (ix3 0 a n)
      = X (ix3 0 a n) := fun a n => congrArg X (emb_points 0 inb_S2x2x2048_S1x2x2048_0_0_0 a n)
    refine (batch0_apply io ib _ _ hio hib k j).trans ?_
    simp only [e]
    rw [show (Rect.unit ![0, 0, 0] ![1, 100, 100] inb_S2x100x100_S1x100x100_0_0_0).emb (ix3 0 k j) = (ix3 0 k j : S2x100x100.Idx) from
      emb_bins 0 inb_S2x100x100_S1x100x100_0_0_0 k j]
    exact congrArg (fun y => P y + _) (emb_bins 0 inb_S2x100x100_S1x100x100_0_0_0 k j)

/-- Every bin is in one of the two stores' rectangles. -/
theorem bins_covered (W1 W0 : S1x100x100.Idx → Ideal .f32) (i : S2x100x100.Idx) :
    ∃ p ∈ ([⟨Rect.unit ![1, 0, 0] ![1, 100, 100] inb_S2x100x100_S1x100x100_1_0_0, W1⟩,
      ⟨Rect.unit ![0, 0, 0] ![1, 100, 100] inb_S2x100x100_S1x100x100_0_0_0, W0⟩] : List (View.Piece (Elt Ideal) S2x100x100 .f32)),
      i ∈ p.1.set := by
  have h : (i 0).val < 2 := (i 0).isLt
  by_cases h0 : (i 0).val = 0
  · exact ⟨_, List.mem_cons_of_mem _ List.mem_cons_self, mem_bins0 i h0⟩
  · exact ⟨_, List.mem_cons_self, mem_bins1 i (by omega)⟩

include hio hib in
/-- The two stores over whatever was stored before leave the grown contents. -/
theorem canon_stores (L : List (View.Piece (Elt Ideal) S2x100x100 .f32)) : View.canon (stores io ib X P ++ L) = grown P X := by
  funext i
  exact View.canon_append_of_piecesOf (grown P X) L _ (stores_grown io ib X P hio hib) i (bins_covered _ _ i)

end Stores

variable (m : (ℓ : Loc nD τ sig) → Buf (Elt Ideal) ℓ) (c : Dev nD) (t : Fin cfg0.N)
  (hio : ∀ k x, (iblk m c 0 t : Vec Ideal S100x256 .f32) (ix2 k x) = ((k.val / 2 : ℝ) : EReal))
  (hib : ∀ k x, (iblk m c 1 t : Vec Ideal S100x256 .bf16) (ix2 k x) = ((k.val / 2 : ℝ) : EReal))

include hio hib in
/-- A middle grid point grows what the point before left. -/
theorem outs_B (h0 : ¬t.val % 4 = 0) (h1 : ¬t.val % 4 = 3) :
    outsAt0 m c t.val t.isLt = grown (outsAt0 m c (t.val - 1) (Nat.lt_of_le_of_lt (Nat.sub_le _ _) t.isLt)) (iblk m c 2 t) := by
  rw [outsAt0_B m c t h0 h1]
  frame_out
  exact canon_stores (iblk m c 0 t) (iblk m c 1 t) (iblk m c 2 t) _ hio hib []

include hio hib in
/-- The first grid point grows zeros. -/
theorem outs_A (h0 : t.val % 4 = 0) (h1 : ¬t.val % 4 = 3) :
    outsAt0 m c t.val t.isLt = grown (k0_pay3 (F := Ideal)) (iblk m c 2 t) := by
  rw [outsAt0_A m c t h0 h1]
  frame_out
  rw [View.readCov_skip _ _ _ _ _ (by decide), View.readCov_fill _ _ _ _ _ (by decide), View.readCov_fill _ _ _ _ _ (by decide)]
  exact canon_stores (iblk m c 0 t) (iblk m c 1 t) (iblk m c 2 t) _ hio hib _

include hio hib in
/-- The last grid point grows what the point before left and divides by the batch's total. -/
theorem outs_C (h0 : ¬t.val % 4 = 0) (h1 : t.val % 4 = 3) :
    outsAt0 m c t.val t.isLt
      = k0_pay2 (grown (outsAt0 m c (t.val - 1) (Nat.lt_of_le_of_lt (Nat.sub_le _ _) t.isLt)) (iblk m c 2 t)) := by
  rw [outsAt0_C m c t h0 h1]
  frame_out
  rw [View.readCov_eq_canon']
  refine congrArg k0_pay2 (funext fun i => ?_)
  refine (congrFun (canon_stores (iblk m c 0 t) (iblk m c 1 t) (iblk m c 2 t) _ hio hib []) _).trans (congrArg _ ?_)
  funext a
  apply Fin.ext
  fin_cases a <;> simp [LoadRect.idx, Rect.unit]

end Cert.Hist
-- ==== Proof.Mass.lean ====
/- The total a bin holds: the sum over all 8192 points of a batch of each point's share, cut into the kernel's four blocks and into
   the reference's eight chunks. -/
module

public import proofs.«01_k».proof.Proof.Point

@[expose] public section

noncomputable section

namespace Cert.Hist

/-- What the points with coordinates `u`, `v` put into the bin `k`, `j`, in units of the bin width. -/
def mass (u v : Fin 8192 → EReal) (k j : ℕ) : ℝ := ∑ n, tent (u n) (v n) k j

/-- A place within a row of equal blocks. -/
theorem block_lt {a b : ℕ} (s : Fin a) (x : Fin b) : b * s.val + x.val < a * b := by
  have h : b * (s.val + 1) ≤ b * a := Nat.mul_le_mul_left b s.isLt
  have hx := x.isLt
  rw [Nat.mul_comm a b]
  rw [Nat.mul_succ] at h
  omega

/-- A sum over equal blocks is the sum of the blocks' sums. -/
theorem sum_blocks {M : Type} [AddCommMonoid M] (a b : ℕ) (F : Fin (a * b) → M) :
    ∑ n, F n = ∑ s : Fin a, ∑ x : Fin b, F ⟨b * s.val + x.val, block_lt s x⟩ := by
  rw [← Fintype.sum_prod_type']
  refine (Fintype.sum_equiv (finProdFinEquiv (m := a) (n := b)) _ _ fun y => ?_).symm
  congr 1
  exact Fin.ext (Nat.add_comm _ _)

/-- The total over the kernel's four blocks of 2048 points. -/
theorem mass_four (u v : Fin 8192 → EReal) (k j : ℕ) :
    mass u v k j = ∑ s : Fin 4, ∑ x : Fin 2048,
      tent (u ⟨2048 * s.val + x.val, block_lt (a := 4) s x⟩) (v ⟨2048 * s.val + x.val, block_lt (a := 4) s x⟩) k j :=
  sum_blocks 4 2048 fun n => tent (u n) (v n) k j

/-- The total over the reference's eight chunks of 1024 points. -/
theorem mass_eight (u v : Fin 8192 → EReal) (k j : ℕ) :
    mass u v k j = ∑ s : Fin 8, ∑ x : Fin 1024,
      tent (u ⟨1024 * s.val + x.val, block_lt (a := 8) s x⟩) (v ⟨1024 * s.val + x.val, block_lt (a := 8) s x⟩) k j :=
  sum_blocks 8 1024 fun n => tent (u n) (v n) k j

end Cert.Hist
-- ==== Proof.Kernel.lean ====
/- What the kernel's result array holds: at every bin, its total in units of the bin width over what all the batch's bins total. -/
module

public import proofs.«01_k».proof.Proof.Blocks
public import proofs.«01_k».proof.Proof.Mass
public import Idealize.ShloMosaic.Lib.Claim

@[expose] public section

set_option maxRecDepth 16384

noncomputable section

namespace Cert.Hist

open Cert.KernelIdeal Cert.KernelIdeal.Gen Idealize.ShloMosaic Idealize.ShloMosaic.TcCoe Idealize.SL.Sem

variable (m : (ℓ : Loc nD τ sig) → Buf (Elt Ideal) ℓ) (c : Dev nD)

/-- The points as launched. -/
abbrev pts : Vec Ideal S2x8192x2 .f32 := m ((c : Thread nD τ).loc main_arg0)

/-- The places of the blocks: the two tables whole, the points' block moves along the last axis. -/
theorem idx : ∀ t : Fin cfg0.N, win0_0.index t = ![0, 0] ∧ win0_1.index t = ![0, 0] ∧ win0_2.index t = ![0, 0, t.val]
    ∧ win0_3.index t = ![0, 0, 0] := by decide +kernel

/-- The place of an index in a row of a hundred is the index. -/
theorem row_one (k : Fin 100) : S100.rowMajor (ix1 k) = k :=
  Fin.ext (Shape.rowMajor_val_one (ix1 k))

/-- The table of half indices, as the region finds it. -/
theorem table0 (t : Fin cfg0.N) (k : Fin 100) (x : Fin 256) :
    (iblk m c 0 t : Vec Ideal S100x256 .f32) (ix2 k x) = ((k.val / 2 : ℝ) : EReal) := by
  have e : (iblk m c 0 t : Vec Ideal S100x256 .f32) (ix2 k x) = V m c main_v0 (ix2 k x) := by
    blk_ext [iblk, idx t]
  rw [e, ← table_half]
  entry_read
  pointwise
  rw [row_one]

/-- Its copy in the narrower type holds the same numbers. -/
theorem table1 (t : Fin cfg0.N) (k : Fin 100) (x : Fin 256) :
    (iblk m c 1 t : Vec Ideal S100x256 .bf16) (ix2 k x) = ((k.val / 2 : ℝ) : EReal) := by
  have e : (iblk m c 1 t : Vec Ideal S100x256 .bf16) (ix2 k x) = V m c main_v2 (ix2 k x) := by
    blk_ext [iblk, idx t]
  rw [e, ← table_half]
  entry_read
  pointwise
  rw [row_one]

/-- The block of points at grid point `t`: coordinate `a` of point `n` of the block, for each batch. -/
theorem points (t : Fin cfg0.N) (b a : Fin 2) (n : Fin 2048) (h : 2048 * t.val + n.val < 8192) :
    (iblk m c 2 t : Vec Ideal S2x2x2048 .f32) (ix3 b a n) = pts m c (ix3 b ⟨2048 * t.val + n.val, h⟩ a) := by
  have e : (iblk m c 2 t : Vec Ideal S2x2x2048 .f32) (ix3 b a n) = V m c main_v1 (ix3 b a ⟨2048 * t.val + n.val, h⟩) := by
    blk_ext [iblk, idx t]
  rw [e]
  entry_read
  pointwise

/-- The kernel's named constant is the bin width. -/
theorem width_eq : (Named.named (F := Ideal) (φ := .f32) κ "delta" 0x3C23D70A#32 : EReal) = ((1 / 100 : ℝ) : EReal) :=
  IdealRules.named_const.ideal_named_scalar _ _ _ _ rfl

/-- The last division, at an index. -/
theorem norm_apply (G : Vec Ideal S2x100x100 .f32) (b : Fin 2) (k j : Fin 100) : k0_pay2 G (ix3 b k j)
    = Ideal.div (G (ix3 b k j) * ((1 / 100 : ℝ) : EReal))
      (∑ x : Fin 100, ∑ y : Fin 100, G (ix3 b x y) * ((1 / 100 : ℝ) : EReal) + Ideal.ofBits .f32 0x3727C5AC#32) := by
  pointwise [k0_pay2]
  rw [width_eq]

/-- What the block at grid point `t` adds to a bin. -/
theorem adds_apply (t : Fin cfg0.N) (b : Fin 2) (k j : Fin 100) (s : Fin 4) (hs : t.val = s.val) :
    adds (iblk m c 2 t) (ix3 b k j) = ((∑ n : Fin 2048,
      tent (pts m c (ix3 b ⟨2048 * s.val + n.val, block_lt (a := 4) s n⟩ 0))
        (pts m c (ix3 b ⟨2048 * s.val + n.val, block_lt (a := 4) s n⟩ 1)) k.val j.val : ℝ) : EReal) := by
  rw [coe_sum]
  refine Finset.sum_congr rfl fun n _ => ?_
  have h : 2048 * t.val + n.val < 8192 := hs ▸ block_lt (a := 4) s n
  have e : ∀ a : Fin 2, (iblk m c 2 t : Vec Ideal S2x2x2048 .f32) (ix3 b a n)
      = pts m c (ix3 b ⟨2048 * s.val + n.val, block_lt (a := 4) s n⟩ a) := fun a => by
    rw [points m c t b a n h]
    simp only [hs]
  show ((tent ((iblk m c 2 t : Vec Ideal S2x2x2048 .f32) (ix3 b 0 n)) ((iblk m c 2 t : Vec Ideal S2x2x2048 .f32) (ix3 b 1 n)) k.val j.val : ℝ) : EReal) = _
  rw [e, e]

/-- The bin's total, over the points as launched. -/
def total (x : Vec Ideal S2x8192x2 .f32) (b : Fin 2) (k j : Fin 100) : ℝ :=
  mass (fun n => x (ix3 b n 0)) (fun n => x (ix3 b n 1)) k.val j.val

/-- What the buffer holds after the last grid point: every bin's total, divided. -/
theorem outs_last (h : 3 < cfg0.N) (b : Fin 2) (k j : Fin 100) : outsAt0 m c 3 h (ix3 b k j)
    = Ideal.div ((total (pts m c) b k j : ℝ) * ((1 / 100 : ℝ) : EReal))
      (∑ x : Fin 100, ∑ y : Fin 100, ((total (pts m c) b x y : ℝ) : EReal) * ((1 / 100 : ℝ) : EReal) + Ideal.ofBits .f32 0x3727C5AC#32) := by
  have h0 : 0 < cfg0.N := by omega
  have h1 : 1 < cfg0.N := by omega
  have h2 : 2 < cfg0.N := by omega
  have e0 : outsAt0 m c 0 h0 = grown (k0_pay3 (F := Ideal)) (iblk m c 2 ⟨0, h0⟩) :=
    outs_A m c ⟨0, h0⟩ (table0 m c _) (table1 m c _) (by simp) (by simp)
  have e1 : outsAt0 m c 1 h1 = grown (outsAt0 m c 0 h0) (iblk m c 2 ⟨1, h1⟩) :=
    outs_B m c ⟨1, h1⟩ (table0 m c _) (table1 m c _) (by simp) (by simp)
  have e2 : outsAt0 m c 2 h2 = grown (outsAt0 m c 1 h1) (iblk m c 2 ⟨2, h2⟩) :=
    outs_B m c ⟨2, h2⟩ (table0 m c _) (table1 m c _) (by simp) (by simp)
  have e3 : outsAt0 m c 3 h = k0_pay2 (grown (outsAt0 m c 2 h2) (iblk m c 2 ⟨3, h⟩)) :=
    outs_C m c ⟨3, h⟩ (table0 m c _) (table1 m c _) (by simp) (by simp)
  have sum : ∀ k j : Fin 100, grown (outsAt0 m c 2 h2) (iblk m c 2 ⟨3, h⟩) (ix3 b k j) = ((total (pts m c) b k j : ℝ) : EReal) := by
    intro k j
    have z : k0_pay3 (F := Ideal) (ix3 b k j) = 0 := by pointwise [k0_pay3]
    unfold total
    rw [mass_four, Fin.sum_univ_four, e2, e1, e0]
    unfold grown
    rw [adds_apply m c ⟨0, h0⟩ b k j 0 rfl, adds_apply m c ⟨1, h1⟩ b k j 1 rfl, adds_apply m c ⟨2, h2⟩ b k j 2 rfl,
      adds_apply m c ⟨3, h⟩ b k j 3 rfl, z, zero_add, ← EReal.coe_add, ← EReal.coe_add, ← EReal.coe_add]
  rw [e3, norm_apply]
  simp only [sum]

/-- The last grid point. -/
def last : Fin cfg0.N := ⟨3, by decide⟩

/-- The result array, at an index. -/
theorem final (b : Fin 2) (k j : Fin 100) : (dats m 0 c).arrAt 3 cfg0.N (ix3 b k j : S2x100x100.Idx)
    = Ideal.div ((total (pts m c) b k j : ℝ) * ((1 / 100 : ℝ) : EReal))
      (∑ x : Fin 100, ∑ y : Fin 100, ((total (pts m c) b x y : ℝ) : EReal) * ((1 / 100 : ℝ) : EReal) + Ideal.ofBits .f32 0x3727C5AC#32) := by
  have e : (dats m 0 c).arrAt 3 cfg0.N = outsAt0 m c 3 (by decide) := by
    refine (dats m 0 c).arrAt_eq_of_after_last 3 last (by decide +kernel) _ fun j => ?_
    blk_simp
    rw [after0_3]
    rfl
  rw [e, outs_last]

end Cert.Hist
-- ==== Proof.RefPoint.lean ====
/- One point of the reference, read over the extended reals: the wrapped coordinate, the test for finiteness, the bin centres, and
   what one point adds to one bin. Nothing here mentions an array. -/
module

public import proofs.«01_k».proof.Proof.Point

@[expose] public section

noncomputable section

namespace Cert.Hist

open Idealize.ShloMosaic

/-- The reference's wrap of one real: the remainder by one, raised by one where it is negative, is the fractional part. -/
theorem wrap_real (r : ℝ) : (if r - (Ideal.truncInt r : ℝ) < 0 then r - (Ideal.truncInt r : ℝ) + 1 else r - (Ideal.truncInt r : ℝ)) = Int.fract r := by
  unfold Ideal.truncInt
  by_cases h : 0 ≤ r
  · rw [if_pos h, if_neg (by linarith [Int.floor_le r])]
    rfl
  · rw [if_neg h]
    have hc := Int.le_ceil r
    have hc' := Int.ceil_lt_add_one r
    by_cases h' : r - (⌈r⌉ : ℝ) < 0
    · rw [if_pos h']
      have : ⌊r⌋ = ⌈r⌉ - 1 := Int.floor_eq_iff.mpr ⟨by push_cast; linarith, by push_cast; linarith⟩
      rw [Int.fract, this]
      push_cast
      ring
    · rw [if_neg h']
      have e : r = ((⌈r⌉ : ℤ) : ℝ) := by linarith
      rw [e, Int.fract_intCast, Int.ceil_intCast, sub_self]

/-- A coordinate as the reference wraps it: the fractional part of a finite one, and the bottom for an infinite one. -/
def wrapped (x : EReal) : EReal := if x = ⊤ ∨ x = ⊥ then ⊥ else ((Int.fract x.toReal : ℝ) : EReal)

/-- The reference's remainder with its correction is the wrapped coordinate. -/
theorem wrap_eq (x : EReal) [Decidable (Ideal.remf x 1 < 0)] [Decidable ((1 : EReal) < 0)] [Decidable (Ideal.remf x 1 ≠ 0)] :
    Scalar.select (IntOp.andi (IntOp.cmpi .ne (BitVec.ofBool (decide (Ideal.remf x 1 < 0))) (BitVec.ofBool (decide ((1 : EReal) < 0))))
      (BitVec.ofBool (decide (Ideal.remf x 1 ≠ 0)))) (Ideal.remf x 1 + 1) (Ideal.remf x 1) = wrapped x := by
  have h1 : ¬ (1 : EReal) < 0 := not_lt.mpr zero_le_one
  have key : ∀ y : EReal, ∀ [Decidable (y < 0)] [Decidable (y ≠ 0)],
      Scalar.select (IntOp.andi (IntOp.cmpi .ne (BitVec.ofBool (decide (y < 0))) (BitVec.ofBool (decide ((1 : EReal) < 0))))
      (BitVec.ofBool (decide (y ≠ 0)))) (y + 1) y = if y < 0 then y + 1 else y := by
    intro y _ _
    by_cases h : y < 0
    · have : y ≠ 0 := ne_of_lt h
      simp only [h, h1, this, decide_true, decide_false, if_true, ne_eq, not_false_eq_true]
      rfl
    · rw [decide_eq_false h, decide_eq_false h1, if_neg h]
      have z : ∀ b : Bool, IntOp.andi (IntOp.cmpi .ne (BitVec.ofBool false) (BitVec.ofBool false)) (BitVec.ofBool b) = 0#1 := by decide
      rw [z]
      rfl
  rw [key]
  unfold wrapped
  by_cases hx : x = ⊤ ∨ x = ⊥
  · rw [if_pos hx]
    have : Ideal.remf x 1 = ⊥ := by rcases hx with rfl | rfl <;> simp
    rw [if_pos (this ▸ EReal.bot_lt_zero), this, EReal.bot_add]
  · rw [if_neg hx]
    obtain ⟨a, b⟩ := not_or.mp hx
    lift x to ℝ using ⟨a, b⟩
    have e : Ideal.remf (x : EReal) 1 = ((x - (Ideal.truncInt x : ℝ) : ℝ) : EReal) := by
      rw [← EReal.coe_one, Ideal.remf_coe, if_neg one_ne_zero, div_one, one_mul]
    rw [EReal.toReal_coe, ← wrap_real]
    by_cases h : x - (Ideal.truncInt x : ℝ) < 0
    · rw [if_pos h, if_pos (by rw [e]; exact_mod_cast h), e, ← EReal.coe_one, ← EReal.coe_add]
    · rw [if_neg h, if_neg (by rw [e]; exact_mod_cast h), e]

/-- The word of infinity. -/
theorem inf_f32 : Ideal.ofBits .f32 0x7F800000#32 = ⊤ := by
  simp [Ideal.ofBits, Ideal.ieee]

/-- The bin width as the program divides it. -/
theorem width_div : Ideal.div 1 (Ideal.ofBits .f32 0x42C80000#32) = ((1 / 100 : ℝ) : EReal) := by
  rw [hundred_f32, Ideal.div_coe (by norm_num), one_mul]

/-- The centre of bin `k`. -/
theorem centre_eq (k : Fin 100) :
    Ideal.div 1 (Ideal.ofBits .f32 0x42C80000#32)
      * (FloatOps.sitofp (F := Ideal) .f32 (BitVec.ofNat 32 k.val) + Ideal.ofBits .f32 0x3F000000#32)
      = ((1 / 100 * ((k.val : ℝ) + 1 / 2) : ℝ) : EReal) := by
  have hk : (BitVec.ofNat 32 k.val).toInt = (k.val : ℤ) := by
    have := k.isLt
    rw [BitVec.toInt_eq_toNat_of_lt (by rw [BitVec.toNat_ofNat]; omega), BitVec.toNat_ofNat]
    omega
  have e : FloatOps.sitofp (F := Ideal) .f32 (BitVec.ofNat 32 k.val) = (((k.val : ℝ)) : EReal) := by
    show (((BitVec.ofNat 32 k.val).toInt : ℝ) : EReal) = _
    rw [hk]
    norm_cast
  rw [e, width_div, half_f32, ← EReal.coe_add, ← EReal.coe_mul]

/-- The reference's test of a wrapped coordinate: it passes where the coordinate was finite. -/
theorem test_eq (x : EReal) : FloatOps.absf (F := Ideal) (φ := .f32) (wrapped x) < Ideal.ofBits .f32 0x7F800000#32 ↔ (x ≠ ⊤ ∧ x ≠ ⊥) := by
  rw [inf_f32]
  unfold wrapped
  by_cases hx : x = ⊤ ∨ x = ⊥
  · rw [if_pos hx]
    have : FloatOps.absf (F := Ideal) (φ := .f32) (⊥ : EReal) = (⊤ : EReal) := by
      show max (⊥ : EReal) (-⊥) = ⊤
      simp
    rw [this]
    exact ⟨fun h => absurd h (lt_irrefl _), fun h => absurd hx (not_or.mpr h)⟩
  · rw [if_neg hx, abs_coe]
    exact ⟨fun _ => not_or.mp hx, fun _ => EReal.coe_lt_top _⟩

/-- What one point adds to one bin: its share, times the bin width. -/
theorem gain_eq (x y : EReal) (k j : ℕ)
    [Decidable (FloatOps.absf (F := Ideal) (φ := .f32) (wrapped x) < Ideal.ofBits .f32 0x7F800000#32)]
    [Decidable (FloatOps.absf (F := Ideal) (φ := .f32) (wrapped y) < Ideal.ofBits .f32 0x7F800000#32)] :
    Scalar.select (IntOp.andi (BitVec.ofBool (decide (FloatOps.absf (F := Ideal) (φ := .f32) (wrapped x) < Ideal.ofBits .f32 0x7F800000#32)))
        (BitVec.ofBool (decide (FloatOps.absf (F := Ideal) (φ := .f32) (wrapped y) < Ideal.ofBits .f32 0x7F800000#32))))
      (max (((1 / 100 : ℝ) : EReal) - Ideal.ofBits .f32 0x3F000000#32
        * (FloatOps.absf (F := Ideal) (φ := .f32) (wrapped x - ((1 / 100 * ((k : ℝ) + 1 / 2) : ℝ) : EReal))
          + FloatOps.absf (F := Ideal) (φ := .f32) (wrapped y - ((1 / 100 * ((j : ℝ) + 1 / 2) : ℝ) : EReal)))) 0) 0
      = ((tent x y k j * (1 / 100) : ℝ) : EReal) := by
  unfold tent
  by_cases hx : x ≠ ⊤ ∧ x ≠ ⊥
  · by_cases hy : y ≠ ⊤ ∧ y ≠ ⊥
    · rw [if_pos (show Good x y from ⟨hx, hy⟩)]
      have wx : wrapped x = ((Int.fract x.toReal : ℝ) : EReal) := if_neg (not_or.mpr hx)
      have wy : wrapped y = ((Int.fract y.toReal : ℝ) : EReal) := if_neg (not_or.mpr hy)
      rw [decide_eq_true ((test_eq x).mpr hx), decide_eq_true ((test_eq y).mpr hy)]
      rw [wx, wy, half_f32, ← EReal.coe_sub, ← EReal.coe_sub, abs_coe, abs_coe, ← EReal.coe_add, ← EReal.coe_mul, ← EReal.coe_sub,
        ← EReal.coe_zero, ← coe_max, clip_share]
      rfl
    · rw [if_neg (fun g => hy g.2), zero_mul, decide_eq_false (fun h => hy ((test_eq y).mp h))]
      rw [show ∀ b : Bool, IntOp.andi (BitVec.ofBool b) (BitVec.ofBool false) = 0#1 from by decide]
      rfl
  · rw [if_neg (fun g => hx g.1), zero_mul, decide_eq_false (fun h => hx ((test_eq x).mp h))]
    rw [show ∀ b : Bool, IntOp.andi (BitVec.ofBool false) (BitVec.ofBool b) = 0#1 from by decide]
    rfl

end Cert.Hist
-- ==== Proof.Chunk.lean ====
/- What the reference's loop carries in, and what one trip of it does, read at an index. -/
module

public import proofs.«01_k».proof.Proof.RefPoint
public import proofs.«01_k».proof.Proof.Mass
public import proofs.«01_k».proof.Proof.Gen.ReferenceIdeal.Run
public import Idealize.ShloMosaic.Lib.Pointwise
public import Idealize.ShloMosaic.Lib.Tactic.CleanTypes
public import Idealize.ShloMosaic.Lib.StableHlo.ReadAt

@[expose] public section

set_option maxRecDepth 16384

noncomputable section

namespace Cert.Hist

open Cert.ReferenceIdeal Cert.ReferenceIdeal.Gen Cert.ReferenceIdeal.Value Idealize.ShloMosaic Idealize.ShloMosaic.TcCoe Idealize.SL.Sem
open Idealize.ShloMosaic.StableHlo

variable (m : (ℓ : Loc nD τ sig) → Buf (Elt Ideal) ℓ) (c : Dev nD) (V0 : Valuation τ sig (Elt Ideal))

/-- The counts a loop state carries. -/
abbrev counts : S2x100x100.Idx → EReal := (V0 (Proc.devRef .tc main_v16_4) : Vec Ideal S2x100x100 .f32)

/-- The points as launched, on the reference's side. -/
abbrev refPts : Vec Ideal S2x8192x2 .f32 := m ((c.tc : Thread nD τ).loc main_arg0)

/-- The chunks the loop walks: coordinate `d` of point `p` of chunk `q`, wrapped. -/
theorem entry_chunks (q : Fin 8) (b : Fin 2) (p : Fin 1024) (d : Fin 2) :
    (entryContents preI m c (Proc.devRef .tc main_v16_0) : Vec Ideal S8x2x1024x2 .f32) (ix4 q b p d)
      = wrapped (refPts m c (ix3 b ⟨1024 * q.val + p.val, block_lt (a := 8) q p⟩ d)) := by
  rw [← wrap_eq]
  simp only [entryContents, afterL_cons, afterL_nil]
  after_reads_at
  simp only [id_eq]
  clean_types
  pointwise
  simp only [Nat.mul_comm 1024]

/-- The bin centres, as the loop finds them. -/
theorem entry_centres (k : Fin 100) :
    (entryContents preI m c (Proc.devRef .tc main_v16_1) : Vec Ideal S100 .f32) (ix1 k)
      = ((1 / 100 * ((k.val : ℝ) + 1 / 2) : ℝ) : EReal) := by
  rw [← centre_eq]
  simp only [entryContents, afterL_cons, afterL_nil]
  after_reads_at
  simp only [id_eq]
  clean_types
  pointwise

/-- The bin width, as the loop finds it. -/
theorem entry_width : (entryContents preI m c (Proc.devRef .tc main_v16_2) : Vec Ideal S_ .f32) ix0 = ((1 / 100 : ℝ) : EReal) := by
  rw [← width_div]
  simp only [entryContents, afterL_cons, afterL_nil]
  after_reads_at
  simp only [id_eq]
  clean_types
  pointwise

/-- The counter starts at zero. -/
theorem entry_counter : entryContents preI m c (Proc.devRef .tc main_v16_3) = fun _ => BitVec.ofNat 32 0 := by
  simp only [entryContents, afterL_cons, afterL_nil]
  after_reads_at
  rfl

/-- The counts start at zero. -/
theorem entry_counts (b : Fin 2) (k j : Fin 100) :
    counts (entryContents preI m c) (ix3 b k j) = 0 := by
  simp only [entryContents, afterL_cons, afterL_nil]
  after_reads_at
  simp only [id_eq]
  clean_types
  pointwise

/-- The start of the slice the trip takes: chunk `q`, whole along the other axes. -/
theorem start_eq (q : Fin 8) (h : S1x2x1024x2.rank = S8x2x1024x2.rank) (a : Fin 4) :
    Host.clampedStart S8x2x1024x2 S1x2x1024x2 h
      (fun a => BitVec.toInt ((![fun _ => BitVec.ofNat 32 q.val, constantI S_ 32 0#32, constantI S_ 32 0#32, constantI S_ 32 0#32] :
        Fin 4 → S_.Idx → BitVec 32) a (Shape.Idx.first h_S_))) a = (![q.val, 0, 0, 0] : Fin 4 → ℕ) a := by
  have hq : (BitVec.ofNat 32 q.val).toInt = (q.val : ℤ) := by
    have := q.isLt
    rw [BitVec.toInt_eq_toNat_of_lt (by rw [BitVec.toNat_ofNat]; omega), BitVec.toNat_ofNat]
    omega
  fin_cases a
  · exact Host.clampedStart_of_le h _ 0 q.val hq q.isLt
  · exact Host.clampedStart_of_le h _ 1 0 rfl (by exact le_refl _)
  · exact Host.clampedStart_of_le h _ 2 0 rfl (by exact le_refl _)
  · exact Host.clampedStart_of_le h _ 3 0 rfl (by exact le_refl _)

/-- Two places of a rank-four array with the same coordinates are the same. -/
theorem place_eq {n0 n1 n2 n3 : ℕ} {a a' : Fin n0} {b b' : Fin n1} {c c' : Fin n2} {d d' : Fin n3} (ha : a.val = a'.val)
    (hb : b.val = b'.val) (hc : c.val = c'.val) (hd : d.val = d'.val) : ix4 a b c d = ix4 a' b' c' d' := by
  rw [Fin.ext ha, Fin.ext hb, Fin.ext hc, Fin.ext hd]

/-- Where the counter is `q`, the trip's first coordinates are chunk `q`'s. -/
theorem first_coord (q : Fin 8) (hq : V0 (Proc.devRef .tc main_v16_3) = fun _ => BitVec.ofNat 32 q.val) (b : Fin 2) (p : Fin 1024) :
    (res_main_while0b_v25 V0 : Vec Ideal S2x1024 .f32) (ix2 b p)
      = (V0 (Proc.devRef .tc main_v16_0) : Vec Ideal S8x2x1024x2 .f32) (ix4 q b p 0) := by
  unfold res_main_while0b_v25 res_main_while0b_v23
  rw [hq]
  clean_types
  pointwise
  exact congrArg (V0 (Proc.devRef .tc main_v16_0)) (place_eq (start_eq q rfl 0)
    ((congrArg (· + b.val) (start_eq q rfl 1)).trans (Nat.zero_add _))
    ((congrArg (· + p.val) (start_eq q rfl 2)).trans (Nat.zero_add _)) (start_eq q rfl 3))

/-- And its second coordinates. -/
theorem second_coord (q : Fin 8) (hq : V0 (Proc.devRef .tc main_v16_3) = fun _ => BitVec.ofNat 32 q.val) (b : Fin 2) (p : Fin 1024) :
    (res_main_while0b_v27 V0 : Vec Ideal S2x1024 .f32) (ix2 b p)
      = (V0 (Proc.devRef .tc main_v16_0) : Vec Ideal S8x2x1024x2 .f32) (ix4 q b p 1) := by
  unfold res_main_while0b_v27 res_main_while0b_v23
  rw [hq]
  clean_types
  pointwise
  exact congrArg (V0 (Proc.devRef .tc main_v16_0)) (place_eq (start_eq q rfl 0)
    ((congrArg (· + b.val) (start_eq q rfl 1)).trans (Nat.zero_add _))
    ((congrArg (· + p.val) (start_eq q rfl 2)).trans (Nat.zero_add _)) (congrArg (· + 1) (start_eq q rfl 3)))

/-- One trip adds to every bin what chunk `q` holds of it. -/
theorem trip_adds (q : Fin 8) (u v : Fin 2 → Fin 1024 → EReal)
    (hq : V0 (Proc.devRef .tc main_v16_3) = fun _ => BitVec.ofNat 32 q.val)
    (h0 : ∀ b p, (V0 (Proc.devRef .tc main_v16_0) : Vec Ideal S8x2x1024x2 .f32) (ix4 q b p 0) = wrapped (u b p))
    (h0' : ∀ b p, (V0 (Proc.devRef .tc main_v16_0) : Vec Ideal S8x2x1024x2 .f32) (ix4 q b p 1) = wrapped (v b p))
    (h1 : ∀ k, (V0 (Proc.devRef .tc main_v16_1) : Vec Ideal S100 .f32) (ix1 k) = ((1 / 100 * ((k.val : ℝ) + 1 / 2) : ℝ) : EReal))
    (h2 : (V0 (Proc.devRef .tc main_v16_2) : Vec Ideal S_ .f32) ix0 = ((1 / 100 : ℝ) : EReal))
    (b : Fin 2) (k j : Fin 100) :
    (step_main_v16_4 V0 : Vec Ideal S2x100x100 .f32) (ix3 b k j)
      = counts V0 (ix3 b k j)
        + ((∑ p, tent (u b p) (v b p) k.val j.val * (1 / 100) : ℝ) : EReal) := by
  unfold step_main_v16_4
  simp only [id_eq]
  clean_types
  pointwise
  rw [coe_sum]
  congr 1
  refine Finset.sum_congr rfl fun p _ => ?_
  rw [← gain_eq]
  simp only [first_coord V0 q hq, second_coord V0 q hq, h0, h0', h1, h2]

/-- What is returned: a bin's count over the sum of the batch's counts, the small constant added. -/
theorem returned (b : Fin 2) (k j : Fin 100) :
    (out_main_v22 V0 : Vec Ideal S2x100x100 .f32) (ix3 b k j)
      = Ideal.div (counts V0 (ix3 b k j))
        (∑ x : Fin 100, ∑ y : Fin 100, counts V0 (ix3 b x y)
          + Ideal.ofBits .f32 0x3727C5AC#32) := by
  unfold out_main_v22
  clean_types
  pointwise

end Cert.Hist
-- ==== Proof.Reference.lean ====
/- What the reference's result holds: the loop's counts after eight trips, and what is made of them. -/
module

public import proofs.«01_k».proof.Proof.Chunk

@[expose] public section

set_option maxRecDepth 16384

noncomputable section

namespace Cert.Hist

open Cert.ReferenceIdeal Cert.ReferenceIdeal.Gen Cert.ReferenceIdeal.Value Idealize.ShloMosaic Idealize.ShloMosaic.TcCoe Idealize.SL.Sem
open Idealize.ShloMosaic.StableHlo

variable (m : (ℓ : Loc nD τ sig) → Buf (Elt Ideal) ℓ) (c : Dev nD)

/-- The loop's state after `n` trips. -/
abbrev state (n : ℕ) : Valuation τ sig (Elt Ideal) := STEP^[n] (entryContents preI m c)

/-- A trip more is one step of the loop. -/
theorem state_succ (n : ℕ) : state m c (n + 1) = STEP (state m c n) := Function.iterate_succ_apply' _ _ _

/-- The chunks, the centres and the width stay what they were. -/
theorem state_keeps (n : ℕ) :
    state m c n (Proc.devRef .tc main_v16_0) = entryContents preI m c (Proc.devRef .tc main_v16_0)
    ∧ state m c n (Proc.devRef .tc main_v16_1) = entryContents preI m c (Proc.devRef .tc main_v16_1)
    ∧ state m c n (Proc.devRef .tc main_v16_2) = entryContents preI m c (Proc.devRef .tc main_v16_2) := by
  induction n with
  | zero => exact ⟨rfl, rfl, rfl⟩
  | succ n ih =>
    rw [state_succ]
    exact ⟨(STEP_main_v16_0 _).trans ih.1, (STEP_main_v16_1 _).trans ih.2.1, (STEP_main_v16_2 _).trans ih.2.2⟩

/-- The counter counts the trips. -/
theorem state_counter (n : ℕ) : state m c n (Proc.devRef .tc main_v16_3) = fun _ => BitVec.ofNat 32 n := by
  induction n with
  | zero => exact entry_counter m c
  | succ n ih =>
    rw [state_succ, STEP_main_v16_3]
    unfold step_main_v16_3
    rw [ih]
    funext i
    exact (BitVec.ofNat_add n 1).symm

/-- What chunk `n` holds of a bin, in units of the bin width; nothing past the last chunk. -/
def chunk (x : Vec Ideal S2x8192x2 .f32) (b : Fin 2) (k j : Fin 100) (n : ℕ) : ℝ :=
  if h : n < 8 then ∑ p : Fin 1024, tent (x (ix3 b ⟨1024 * n + p.val, block_lt (a := 8) ⟨n, h⟩ p⟩ 0))
    (x (ix3 b ⟨1024 * n + p.val, block_lt (a := 8) ⟨n, h⟩ p⟩ 1)) k.val j.val else 0

/-- The counts after `n` trips are what the first `n` chunks hold, times the bin width. -/
theorem state_counts (n : ℕ) (hn : n ≤ 8) (b : Fin 2) (k j : Fin 100) :
    counts (state m c n) (ix3 b k j) = ((∑ s ∈ Finset.range n, chunk (refPts m c) b k j s * (1 / 100) : ℝ) : EReal) := by
  induction n with
  | zero =>
    rw [Finset.sum_range_zero]
    exact entry_counts m c b k j
  | succ n ih =>
    have h : n < 8 := hn
    have hk := state_keeps m c n
    have e : counts (state m c (n + 1)) (ix3 b k j) = (step_main_v16_4 (state m c n) : Vec Ideal S2x100x100 .f32) (ix3 b k j) := by
      rw [state_succ]
      exact congrFun (STEP_main_v16_4 _) _
    rw [e, trip_adds (state m c n) ⟨n, h⟩ (fun b p => refPts m c (ix3 b ⟨1024 * n + p.val, block_lt (a := 8) ⟨n, h⟩ p⟩ 0))
      (fun b p => refPts m c (ix3 b ⟨1024 * n + p.val, block_lt (a := 8) ⟨n, h⟩ p⟩ 1)) (state_counter m c n)
      (fun b p => (congrFun hk.1 _).trans (entry_chunks m c ⟨n, h⟩ b p 0))
      (fun b p => (congrFun hk.1 _).trans (entry_chunks m c ⟨n, h⟩ b p 1))
      (fun k => (congrFun hk.2.1 _).trans (entry_centres m c k))
      ((congrFun hk.2.2 _).trans (entry_width m c)) b k j, ih (by omega), Finset.sum_range_succ, ← EReal.coe_add]
    congr 2
    rw [chunk, dif_pos h, Finset.sum_mul]

/-- After the eight trips the counts are the bins' totals, times the bin width. -/
theorem counts_end (b : Fin 2) (k j : Fin 100) :
    counts (state m c 8) (ix3 b k j)
      = ((mass (fun n => refPts m c (ix3 b n 0)) (fun n => refPts m c (ix3 b n 1)) k.val j.val : ℝ) : EReal) * ((1 / 100 : ℝ) : EReal) := by
  rw [state_counts m c 8 le_rfl, ← EReal.coe_mul, ← Finset.sum_mul, mass_eight, Finset.sum_range]
  congr 2

end Cert.Hist
-- ==== Proof.Equation.lean ====
/- The equation: from the same points, the kernel's array and the reference's result hold the same at every bin. -/
module

public import proofs.«01_k».proof.Proof.Kernel
public import proofs.«01_k».proof.Proof.Reference

@[expose] public section

set_option maxRecDepth 16384

noncomputable section

namespace Cert.Hist

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The reference's counts are the kernel's totals, times the bin width. -/
theorem counts_agree (h : refPts m' c = pts m c) (b : Fin 2) (k j : Fin 100) :
    counts (state m' c 8) (ix3 b k j) = ((total (pts m c) b k j : ℝ) : EReal) * ((1 / 100 : ℝ) : EReal) := by
  rw [counts_end, h]
  rfl

/-- The kernel's array, as extended reals at the result's places. -/
abbrev made : Cert.KernelIdeal.S2x100x100.Idx → EReal := (Cert.KernelIdeal.Gen.dats m 0 c).arrAt 3 Cert.KernelIdeal.cfg0.N

/-- The reference's result, as extended reals at the result's places. -/
abbrev wanted : Cert.KernelIdeal.S2x100x100.Idx → EReal := Cert.ReferenceIdeal.Value.out_main_v22 (state m' c 8)

/-- The two results at a bin. -/
theorem bin_agrees (h : refPts m' c = pts m c) (b : Fin 2) (k j : Fin 100) :
    wanted m' c (ix3 b k j) = made m c (ix3 b k j) := by
  refine (returned (state m' c 8) b k j).trans (Eq.trans ?_ (final m c b k j).symm)
  simp only [counts_agree m m' c h]

/-- Where the two memories hold the same points, the reference's result is the kernel's array. -/
theorem results_agree (h : refPts m' c = pts m c) : wanted m' c = made m c := by
  funext i
  idx_vars i
  exact bin_agrees m m' c h _ _ _

end Cert.Hist
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem

/-- The reference runs and leaves its arguments as they were. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel's word for one hundredth is named the number one hundredth. -/
theorem preserves : Cert.preserves_Kernel_KernelIdeal :=
  IdealRules.named_const.statement Cert.KernelIdeal.κ "delta" .f32 0x3C23D70A#32 ((1 / 100 : ℝ) : EReal) rfl

/-- The kernel and the reference end with equal results. -/
theorem algebraic : Cert.algebraic_KernelIdeal_ReferenceIdeal (hKernelIdeal := Cert.KernelIdeal.Gen.facts)
    (hReferenceIdeal := Cert.ReferenceIdeal.Gen.facts) := fun m g m' g' _ hm =>
  ⟨fun c => (Cert.KernelIdeal.Gen.dats m 0 c).arrAt 3 Cert.KernelIdeal.cfg0.N, Cert.KernelIdeal.Value.run_blocks m g,
    (θ_run _ _ _).mono (fun _ h c => ⟨(h c).1.trans (Cert.Hist.results_agree m m' c (hm c).1), (h c).2⟩)
      (Cert.ReferenceIdeal.Value.run m' g')⟩

/-- Everything the certificate claims. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frame_reference, preserves, algebraic⟩

end Cert.Proof

end
